-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2x128x8192 : Shape := ⟨4, ![8, 2, 128, 8192]⟩
abbrev S8x2x128 : Shape := ⟨3, ![8, 2, 128]⟩
abbrev S8192 : Shape := ⟨1, ![8192]⟩
abbrev S2x128x8192 : Shape := ⟨3, ![2, 128, 8192]⟩
abbrev S16x128 : Shape := ⟨2, ![16, 128]⟩
abbrev S1x8192 : Shape := ⟨2, ![1, 8192]⟩
abbrev S8x256x8192 : Shape := ⟨3, ![8, 256, 8192]⟩
abbrev S256x8192 : Shape := ⟨2, ![256, 8192]⟩
abbrev S2x128 : Shape := ⟨2, ![2, 128]⟩
abbrev S8x32x8192 : Shape := ⟨3, ![8, 32, 8192]⟩
abbrev S32x8192 : Shape := ⟨2, ![32, 8192]⟩
abbrev S8x32x256 : Shape := ⟨3, ![8, 32, 256]⟩
abbrev S8x128 : Shape := ⟨2, ![8, 128]⟩
abbrev S32x128 : Shape := ⟨2, ![32, 128]⟩
abbrev S1x128 : Shape := ⟨2, ![1, 128]⟩
abbrev S32x256 : Shape := ⟨2, ![32, 256]⟩
abbrev S1x32x256 : Shape := ⟨3, ![1, 32, 256]⟩
abbrev S8x32x1024 : Shape := ⟨3, ![8, 32, 1024]⟩
abbrev S256x1024 : Shape := ⟨2, ![256, 1024]⟩
abbrev S32x1024 : Shape := ⟨2, ![32, 1024]⟩
abbrev S1x1024 : Shape := ⟨2, ![1, 1024]⟩
abbrev S32 : Shape := ⟨1, ![32]⟩
abbrev S32x1 : Shape := ⟨2, ![32, 1]⟩
abbrev S128 : Shape := ⟨1, ![128]⟩

abbrev nBuf : Space → Nat
  | .hbm => 13
  | .vmem => 13
  | .smem => 0
  | _ => 0

abbrev bufTy : (tb : Table) → Fin (tcTables nBuf tb) → BufTy
  | .hbm, ⟨0, _⟩ => ⟨S8x2x128x8192, .fp8e4m3⟩
  | .hbm, ⟨1, _⟩ => ⟨S8x2x128, .f32⟩
  | .hbm, ⟨2, _⟩ => ⟨S8192, .f32⟩
  | .hbm, ⟨3, _⟩ => ⟨S2x128x8192, .bf16⟩
  | .hbm, ⟨4, _⟩ => ⟨S8192, .f32⟩
  | .hbm, ⟨5, _⟩ => ⟨S16x128, .f32⟩
  | .hbm, ⟨6, _⟩ => ⟨S1x8192, .f32⟩
  | .hbm, ⟨7, _⟩ => ⟨S1x8192, .f32⟩
  | .hbm, ⟨8, _⟩ => ⟨S8x256x8192, .fp8e4m3⟩
  | .hbm, ⟨9, _⟩ => ⟨S256x8192, .bf16⟩
  | .hbm, ⟨10, _⟩ => ⟨S256x8192, .bf16⟩
  | .hbm, ⟨11, _⟩ => ⟨S256x8192, .fp8e4m3⟩
  | .hbm, ⟨12, _⟩ => ⟨S2x128, .f32⟩
  | .local _ .vmem, ⟨0, _⟩ => ⟨S16x128, .f32⟩
  | .local _ .vmem, ⟨1, _⟩ => ⟨S1x8192, .f32⟩
  | .local _ .vmem, ⟨2, _⟩ => ⟨S1x8192, .f32⟩
  | .local _ .vmem, ⟨3, _⟩ => ⟨S8x32x8192, .fp8e4m3⟩
  | .local _ .vmem, ⟨4, _⟩ => ⟨S8x32x8192, .fp8e4m3⟩
  | .local _ .vmem, ⟨5, _⟩ => ⟨S32x8192, .bf16⟩
  | .local _ .vmem, ⟨6, _⟩ => ⟨S32x8192, .bf16⟩
  | .local _ .vmem, ⟨7, _⟩ => ⟨S32x8192, .bf16⟩
  | .local _ .vmem, ⟨8, _⟩ => ⟨S32x8192, .bf16⟩
  | .local _ .vmem, ⟨9, _⟩ => ⟨S32x8192, .fp8e4m3⟩
  | .local _ .vmem, ⟨10, _⟩ => ⟨S32x8192, .fp8e4m3⟩
  | .local _ .vmem, ⟨11, _⟩ => ⟨S2x128, .f32⟩
  | .local _ .vmem, ⟨12, _⟩ => ⟨S8x32x256, .bf16⟩
  | _, _ => ⟨S8x2x128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v3 : Index := Scalar.indexCast arg0
  let c0 : Index := 0#32
  let c0_1 : Index := 0#32
  ![v3.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x32x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8x2x128x8192 : Shape := ⟨4, ![8, 2, 128, 8192]⟩
abbrev S8x2x128 : Shape := ⟨3, ![8, 2, 128]⟩
abbrev S8192 : Shape := ⟨1, ![8192]⟩
abbrev S2x128x8192 : Shape := ⟨3, ![2, 128, 8192]⟩
abbrev S256x8192 : Shape := ⟨2, ![256, 8192]⟩
abbrev S2x128 : Shape := ⟨2, ![2, 128]⟩
abbrev S8x2x128x1 : Shape := ⟨4, ![8, 2, 128, 1]⟩
abbrev S1x1x8192 : Shape := ⟨3, ![1, 1, 8192]⟩
abbrev S2x128x1 : Shape := ⟨3, ![2, 128, 1]⟩
abbrev S2x128x253 : Shape := ⟨3, ![2, 128, 253]⟩

abbrev nBuf : Space → Nat
  | .hbm => 8
  | .vmem => 8
  | .smem => 0
  | _ => 0

abbrev bufTy : (tb : Table) → Fin (tcTables nBuf tb) → BufTy
  | .hbm, ⟨0, _⟩ => ⟨S8x2x128x8192, .fp8e4m3⟩
  | .hbm, ⟨1, _⟩ => ⟨S8x2x128, .f32⟩
  | .hbm, ⟨2, _⟩ => ⟨S8192, .f32⟩
  | .hbm, ⟨3, _⟩ => ⟨S2x128x8192, .bf16⟩
  | .hbm, ⟨4, _⟩ => ⟨S8192, .f32⟩
  | .hbm, ⟨5, _⟩ => ⟨S256x8192, .bf16⟩
  | .hbm, ⟨6, _⟩ => ⟨S256x8192, .fp8e4m3⟩
  | .hbm, ⟨7, _⟩ => ⟨S2x128, .f32⟩
  | .local _ .vmem, ⟨0, _⟩ => ⟨S8x2x128x8192, .fp8e4m3⟩
  | .local _ .vmem, ⟨1, _⟩ => ⟨S8x2x128, .f32⟩
  | .local _ .vmem, ⟨2, _⟩ => ⟨S8192, .f32⟩
  | .local _ .vmem, ⟨3, _⟩ => ⟨S2x128x8192, .bf16⟩
  | .local _ .vmem, ⟨4, _⟩ => ⟨S8192, .f32⟩
  | .local _ .vmem, ⟨5, _⟩ => ⟨S256x8192, .bf16⟩
  | .local _ .vmem, ⟨6, _⟩ => ⟨S256x8192, .fp8e4m3⟩
  | .local _ .vmem, ⟨7, _⟩ => ⟨S2x128, .f32⟩
  | _, _ => ⟨S8x2x128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x2x128x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KTransport.lean ====
module

public import proofs.«01_k».proof.Defs
public import proofs.«01_k».proof.Proof.Gen.Kernel
public import proofs.«01_k».proof.Proof.Gen.KernelIdeal

public section

/-! The printed kernel and its ideal version are the same program text: what is proved of one at a value type holds of the other there. -/

set_option maxRecDepth 65536

noncomputable section

namespace Cert.Transport

open Idealize.ShloMosaic Idealize.SL.Sem

variable {F : FTy → Type} [FloatOps F]

/-- The two programs' kernel tables are equal. -/
theorem defs₀_eq [Cert.Kernel.Facts] [Cert.KernelIdeal.Facts] : (Cert.Kernel.defs₀ (F := F)) = (Cert.KernelIdeal.defs₀ (F := F)) := by
  unfold Cert.Kernel.defs₀ Cert.KernelIdeal.defs₀
  congr 1
  funext l a
  match l, a with
  | 0, (t, s) => rfl

/-- The two programs' body tables are equal. -/
theorem defs_eq [Cert.Kernel.Facts] [Cert.KernelIdeal.Facts] : (Cert.Kernel.defs (F := F)) = (Cert.KernelIdeal.defs (F := F)) := by
  unfold Cert.Kernel.defs Cert.KernelIdeal.defs
  exact congrArg _ defs₀_eq

open Cert.KernelIdeal in
/-- The ideal version's frame at the machine's floats is the printed kernel's frame. -/
theorem quiescent_of [Cert.Kernel.Facts] [Cert.KernelIdeal.Facts]
    (h : ∀ (m : (ℓ : Loc nD τ sig) → Buf (Elt Bits) ℓ) (ρ : Dev nD → PrngReg), θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)) : Cert.quiescent_Kernel := by
  intro m ρ _
  rw [defs_eq]
  exact h m ρ

end Cert.Transport

end
-- ==== Proof.KRuns.lean ====
module

public import proofs.«01_k».proof.Proof.Gen.KernelIdeal.Frame

public import proofs.«01_k».proof.Proof.Gen.KernelIdeal.Skeleton
public import Idealize.ShloMosaic.Lib.WordCmp

@[expose] public section

/-! What the two runs of the kernel body (the first grid point, the others) are stated over: the branch condition in closed form,
    the staging memrefs and the carried scratch. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 5, through which its contents are stated (`View.read_writes_of_cover`: the
    choice does not matter). -/
abbrev VO0_5 : View sig .tc .vmem S32x8192 .bf16 := (Memref.whole cc0_stg5_0 : Memref sig .tc .vmem S32x8192 .bf16).view
/-- One staging buffer of output window 6, through which its contents are stated (`View.read_writes_of_cover`: the
    choice does not matter). -/
abbrev VO0_6 : View sig .tc .vmem S32x8192 .fp8e4m3 := (Memref.whole cc0_stg6_0 : Memref sig .tc .vmem S32x8192 .fp8e4m3).view
/-- One staging buffer of output window 7, through which its contents are stated (`View.read_writes_of_cover`: the
    choice does not matter). -/
abbrev VO0_7 : View sig .tc .vmem S2x128 .f32 := (Memref.whole cc0_stg7_0 : Memref sig .tc .vmem S2x128 .f32).view
/-- Each window's current staging memref at point `t`, spelled as the pipeline passes it (`bodyAt0`), and its wholeness. -/
abbrev ms0_0 (t : Fin cfg0.N) : Memref sig .tc .vmem S16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x32x8192 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x8192 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x32x256 .bf16 := Memref.whole cc0_scratch0
/-- The scratch `arg9` the kernel carries between points, as a view: what it holds is stated through it. -/
abbrev VS0_0 : View sig .tc .vmem S8x32x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KRunA.lean ====
module

public import proofs.«01_k».proof.Proof.KRuns

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of the run is long
set_option maxHeartbeats 2600000 in
/-- The body at the first grid point: what its stores leave in each output and in the carried scratch, as pieces (last first), whatever the
    scale output held before (`xo7`: the body reads it there and discards what it read), with the triple. The pieces are the witness the run finds. -/
noncomputable def kernelRun0_A (c : Dev nD) (i : grid0.Coords) (arg1 : Memref sig .tc .vmem S16x128 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S8x32x8192 .fp8e4m3) (harg4 : arg4.IsWhole) (arg5 : Memref sig .tc .vmem S32x8192 .bf16) (harg5 : arg5.IsWhole) (arg6 : Memref sig .tc .vmem S32x8192 .bf16) (harg6 : arg6.IsWhole) (arg7 : Memref sig .tc .vmem S32x8192 .fp8e4m3) (harg7 : arg7.IsWhole) (arg8 : Memref sig .tc .vmem S2x128 .f32) (harg8 : arg8.IsWhole) (arg9 : Memref sig .tc .vmem S8x32x256 .bf16) (harg9 : arg9.IsWhole) (hc0 : cond0_0 i)
    (x0 : Vec F S16x128 .f32) (x1 : Vec F S1x8192 .f32) (x2 : Vec F S1x8192 .f32) (x3 : Vec F S8x32x8192 .fp8e4m3) (x4 : Vec F S32x8192 .bf16) (xo7 : Vec F S2x128 .f32) :
    Σ' (L5 : List (View.Piece (Elt F) S32x8192 .bf16)), Σ' (L6 : List (View.Piece (Elt F) S32x8192 .fp8e4m3)), Σ' (L7 : List (View.Piece (Elt F) S2x128 .f32)), { LS0 : List (View.Piece (Elt F) S8x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xo7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_dequant_reduce_norm_quant i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_dequant_reduce_norm_quant_eq_skeleton]; unfold cc0_dequant_reduce_norm_quant_skel
    simp only [k0_part64_eq_skeleton, k0_part14_eq_skeleton, k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

end Cert.KernelIdeal.Hand

end
-- ==== Proof.KRunB.lean ====
module

public import proofs.«01_k».proof.Proof.KRunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of the run is long
set_option maxHeartbeats 2600000 in
/-- The body at a later grid point, over the scale output's running contents `xo7` and the carried scratch `xs0`: what its stores leave in each
    output as pieces (last first), with the triple. The pieces are the witness the run finds. -/
noncomputable def kernelRun0_B (c : Dev nD) (i : grid0.Coords) (arg1 : Memref sig .tc .vmem S16x128 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S8x32x8192 .fp8e4m3) (harg4 : arg4.IsWhole) (arg5 : Memref sig .tc .vmem S32x8192 .bf16) (harg5 : arg5.IsWhole) (arg6 : Memref sig .tc .vmem S32x8192 .bf16) (harg6 : arg6.IsWhole) (arg7 : Memref sig .tc .vmem S32x8192 .fp8e4m3) (harg7 : arg7.IsWhole) (arg8 : Memref sig .tc .vmem S2x128 .f32) (harg8 : arg8.IsWhole) (arg9 : Memref sig .tc .vmem S8x32x256 .bf16) (harg9 : arg9.IsWhole) (hc0 : ¬cond0_0 i)
    (x0 : Vec F S16x128 .f32) (x1 : Vec F S1x8192 .f32) (x2 : Vec F S1x8192 .f32) (x3 : Vec F S8x32x8192 .fp8e4m3) (x4 : Vec F S32x8192 .bf16) (xo7 : Vec F S2x128 .f32) (xs0 : Vec F S8x32x256 .bf16) :
    Σ' (L5 : List (View.Piece (Elt F) S32x8192 .bf16)), Σ' (L6 : List (View.Piece (Elt F) S32x8192 .fp8e4m3)), Σ' (L7 : List (View.Piece (Elt F) S2x128 .f32)), { LS0 : List (View.Piece (Elt F) S8x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xo7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0) -∗ K ⟨⟩))
          ⊢ wp frame (wpE (defs₀ (F := F)) Variants.none c none) E (cc0_dequant_reduce_norm_quant i arg1 harg1 arg2 harg2 arg3 harg3 arg4 harg4 arg5 harg5 arg6 harg6 arg7 harg7 arg8 harg8 arg9 harg9) K } := by
  refine ⟨?_, ?_, ?_, [], fun E K => ?run⟩
  case run =>
    simp only [cc0_dequant_reduce_norm_quant_eq_skeleton]; unfold cc0_dequant_reduce_norm_quant_skel
    simp only [k0_part64_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; isplitr; · ipureintro; exact harg9.read_unread _
    iexact HS0

end Cert.KernelIdeal.Hand

end
-- ==== Proof.KModel.lean ====
module

public import proofs.«01_k».proof.Proof.KRunB

@[expose] public section

/-! The kernel body's data flow as a few small functions of what it loads: the residual chunks, the running sum of squares, the running
    maximum, the block scale and the codes. Both runs of the body are these functions of their own loads. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-! ## The rectangles the body loads and stores -/

theorem slT (n : Nat) : S32x1024.Slices ![0, 128 * (n % 8)] S32x128 :=
  (by decide +kernel : ∀ k : Fin 8, S32x1024.Slices ![0, 128 * (k.val)] S32x128) ⟨n % 8, Nat.mod_lt _ (by decide)⟩
theorem inbP (n : Nat) : ∀ a, (![0, 0, 1024 * (n % 8)] : Fin 3 → Nat) a + S8x32x1024.size a ≤ S8x32x8192.size a :=
  (by decide +kernel : ∀ k : Fin 8, ∀ a, (![0, 0, 1024 * (k.val)] : Fin 3 → Nat) a + S8x32x1024.size a ≤ S8x32x8192.size a) ⟨n % 8, Nat.mod_lt _ (by decide)⟩
theorem inbB (n : Nat) : ∀ a, (![0, 1024 * (n % 8)] : Fin 2 → Nat) a + S1x1024.size a ≤ S1x8192.size a :=
  (by decide +kernel : ∀ k : Fin 8, ∀ a, (![0, 1024 * (k.val)] : Fin 2 → Nat) a + S1x1024.size a ≤ S1x8192.size a) ⟨n % 8, Nat.mod_lt _ (by decide)⟩
theorem inbX (n : Nat) : ∀ a, (![0, 1024 * (n % 8)] : Fin 2 → Nat) a + S32x1024.size a ≤ S32x8192.size a :=
  (by decide +kernel : ∀ k : Fin 8, ∀ a, (![0, 1024 * (k.val)] : Fin 2 → Nat) a + S32x1024.size a ≤ S32x8192.size a) ⟨n % 8, Nat.mod_lt _ (by decide)⟩
theorem inbG (n : Nat) : ∀ a, (![0, 128 * (n % 64)] : Fin 2 → Nat) a + S1x128.size a ≤ S1x8192.size a :=
  (by decide +kernel : ∀ k : Fin 64, ∀ a, (![0, 128 * (k.val)] : Fin 2 → Nat) a + S1x128.size a ≤ S1x8192.size a) ⟨n % 64, Nat.mod_lt _ (by decide)⟩
theorem inbC (n : Nat) : ∀ a, (![0, 128 * (n % 64)] : Fin 2 → Nat) a + S32x128.size a ≤ S32x8192.size a :=
  (by decide +kernel : ∀ k : Fin 64, ∀ a, (![0, 128 * (k.val)] : Fin 2 → Nat) a + S32x128.size a ≤ S32x8192.size a) ⟨n % 64, Nat.mod_lt _ (by decide)⟩

/-- The `n`-th chunk of 1024 columns of the partials, of a one-row operand and of a 32-row operand; the `n`-th tile of 128 columns of a
    one-row operand and of a 32-row operand. -/
abbrev rectP (n : Nat) : Rect S8x32x8192 := Rect.unit (s := S8x32x8192) ![0, 0, 1024 * (n % 8)] S8x32x1024.size (inbP n)
abbrev rectB (n : Nat) : Rect S1x8192 := Rect.unit (s := S1x8192) ![0, 1024 * (n % 8)] S1x1024.size (inbB n)
abbrev rectX (n : Nat) : Rect S32x8192 := Rect.unit (s := S32x8192) ![0, 1024 * (n % 8)] S32x1024.size (inbX n)
abbrev rectG (n : Nat) : Rect S1x8192 := Rect.unit (s := S1x8192) ![0, 128 * (n % 64)] S1x128.size (inbG n)
abbrev rectC (n : Nat) : Rect S32x8192 := Rect.unit (s := S32x8192) ![0, 128 * (n % 64)] S32x128.size (inbC n)

/-! ## The data flow -/

/-- The residual chunks' store pieces, last first. -/
def pieces5 (ch : Nat → FVec F S32x1024 .bf16) : Nat → List (View.Piece (Elt F) S32x8192 .bf16)
  | 0 => []
  | n + 1 => ⟨rectX n, ch n⟩ :: pieces5 ch n

/-- The code tiles' store pieces, last first. -/
def pieces6 (cd : Nat → FVec F S32x128 .fp8e4m3) : Nat → List (View.Piece (Elt F) S32x8192 .fp8e4m3)
  | 0 => []
  | n + 1 => ⟨rectC n, cd n⟩ :: pieces6 cd n

/-- The `n`-th tile of 128 columns of the residual chunks. -/
def sqTile (ch : Nat → FVec F S32x1024 .bf16) (n : Nat) : FVec F S32x128 .f32 :=
  extractStridedSlice S32x128 ![0, 128 * (n % 8)] (extf .f32 (ch (n / 8)) bitsLt_bf16_f32) (slT n)

/-- The running sum of squares over the first `n` tiles. -/
def sqFold (ch : Nat → FVec F S32x1024 .bf16) : Nat → FVec F S32x128 .f32
  | 0 => broadcast S32x128 (Scalar.ofBits .f32 0x00000000#32)
  | n + 1 => addf (sqFold ch n) (mulf (sqTile ch n) (sqTile ch n))

/-- The mean of squares of each row. -/
def meanSq (ch : Nat → FVec F S32x1024 .bf16) : FVec F S32x1 .f32 :=
  mulf (shapeCast S32x1 (multiReduction .add [1] S32 (sqFold ch 64) 0x00000000#32 reduces_S32x128_S32 (.inl rfl) rfl) shapeCasts_S32_S32x1)
    (broadcast S32x1 (Scalar.ofBits .f32 0x39000000#32))

/-- One tile of the normalised rows. -/
def normTile (rs : FVec F S32x128 .f32) (rr : Vec F S32x128 .bf16) (g : Vec F S1x128 .f32) : FVec F S32x128 .f32 :=
  mulf (k0_pay183 rs rr) (broadcastTo S32x128 (shapeCast S1x128 g shapeCasts_S1x128_S1x128) broadcasts_S1x128_S32x128)

/-- The running maximum of the absolute values over the first `n` tiles. -/
def maxFold (rs : FVec F S32x128 .f32) (rr : Nat → Vec F S32x128 .bf16) (g : Nat → Vec F S1x128 .f32) : Nat → FVec F S32x128 .f32
  | 0 => broadcast S32x128 (Scalar.ofBits .f32 0x00000000#32)
  | n + 1 => maximumf (maxFold rs rr g n) (absf (normTile rs (rr n) (g n)))

/-- The largest absolute value of each row, in every lane. -/
def rowMax (rs : FVec F S32x128 .f32) (rr : Nat → Vec F S32x128 .bf16) (g : Nat → Vec F S1x128 .f32) : FVec F S32x128 .f32 :=
  k0_pay100 (maxFold rs rr g 63) (k0_pay98 rs (rr 63)) (k0_pay99 (g 63))

/-- The exponent field read off the row maximum. -/
def fieldOf (rs : FVec F S32x128 .f32) (rr : Nat → Vec F S32x128 .bf16) (g : Nat → Vec F S1x128 .f32) : IVec S32x128 32 :=
  k0_pay105 (k0_pay101 (maxFold rs rr g 63) (k0_pay98 rs (rr 63)) (k0_pay99 (g 63)))
    (k0_pay102 (maxFold rs rr g 63) (k0_pay98 rs (rr 63)) (k0_pay99 (g 63)))
    (k0_pay103 (maxFold rs rr g 63) (k0_pay98 rs (rr 63)) (k0_pay99 (g 63))) k0_pay104

/-- Whether that field is zero. -/
def zeroOf (rs : FVec F S32x128 .f32) (rr : Nat → Vec F S32x128 .bf16) (g : Nat → Vec F S1x128 .f32) : IVec S32x128 1 :=
  k0_pay106 (k0_pay101 (maxFold rs rr g 63) (k0_pay98 rs (rr 63)) (k0_pay99 (g 63)))
    (k0_pay102 (maxFold rs rr g 63) (k0_pay98 rs (rr 63)) (k0_pay99 (g 63)))
    (k0_pay103 (maxFold rs rr g 63) (k0_pay98 rs (rr 63)) (k0_pay99 (g 63))) k0_pay104

/-- The row scale and its inverse, in every lane. -/
def scaleOf (rs : FVec F S32x128 .f32) (rr : Nat → Vec F S32x128 .bf16) (g : Nat → Vec F S1x128 .f32) : FVec F S32x128 .f32 :=
  k0_pay108 (rowMax rs rr g) (fieldOf rs rr g) (zeroOf rs rr g) 255#32
def invOf (rs : FVec F S32x128 .f32) (rr : Nat → Vec F S32x128 .bf16) (g : Nat → Vec F S1x128 .f32) : FVec F S32x128 .f32 :=
  k0_pay109 (rowMax rs rr g) (fieldOf rs rr g) (zeroOf rs rr g) 255#32

/-- One tile of codes from the row scale factor, the inverse scale, the residual tile and the gain tile. -/
def codeTile (rs inv : FVec F S32x128 .f32) (rr : Vec F S32x128 .bf16) (g : Vec F S1x128 .f32) : FVec F S32x128 .fp8e4m3 :=
  k0_pay185 rs inv rr g

/-! ## The scaling matrices of the first point -/

theorem slS (n : Nat) : S8x128.Slices ![n % 8, 0] S1x128 :=
  (by decide +kernel : ∀ k : Fin 8, S8x128.Slices ![k.val, 0] S1x128) ⟨n % 8, Nat.mod_lt _ (by decide)⟩
theorem inbS (n : Nat) : ∀ a, (![n % 8, 0, 0] : Fin 3 → Nat) a + S1x32x256.size a ≤ S8x32x256.size a :=
  (by decide +kernel : ∀ k : Fin 8, ∀ a, (![k.val, 0, 0] : Fin 3 → Nat) a + S1x32x256.size a ≤ S8x32x256.size a) ⟨n % 8, Nat.mod_lt _ (by decide)⟩
theorem inbL (b : Nat) : ∀ a, S8x128.size a = 0 ∨ (![b % 2, 0] : Fin 2 → Nat) a + (![2, 1] : Fin 2 → Nat) a * (S8x128.size a - 1) < S16x128.size a :=
  (by decide +kernel : ∀ k : Fin 2, ∀ a, S8x128.size a = 0 ∨ (![k.val, 0] : Fin 2 → Nat) a + (![2, 1] : Fin 2 → Nat) a * (S8x128.size a - 1) < S16x128.size a)
    ⟨b % 2, Nat.mod_lt _ (by decide)⟩

/-- Half `h` of the scaling matrix of tile `j`, after its first `q` bands. -/
def scHalf (sc : FVec F S8x128 .f32) (j h : Nat) : Nat → FVec F S32x128 .f32
  | 0 => broadcast S32x128 (Scalar.ofBits .f32 0x00000000#32)
  | q + 1 =>
    select (cmpi .eq (iota .tc S32x128 32 [1] iota_S32x128_d1_w32)
        (addi (iota .tc S32x128 32 [0] iota_S32x128_d0_w32) (broadcast S32x128 (BitVec.ofNat 32 (32 * q)))))
      (broadcastTo S32x128 (shapeCast S1x128 (extractStridedSlice S1x128 ![(4 * h + q) % 8, 0]
          (dynamicRotate 1 (BitVec.ofNat 32 (32 * (q + 4 - j) % 128)) none sc rotates_S8x128_d1) (slS (4 * h + q)))
        shapeCasts_S1x128_S1x128) broadcasts_S1x128_S32x128)
      (scHalf sc j h q)

/-- The scaling matrix of tile `j` of a batch. -/
def scMat (sc : FVec F S8x128 .f32) (j : Nat) : FVec F S1x32x256 .bf16 :=
  shapeCast S1x32x256 (truncf .bf16 (concatenate S32x256 1 [⟨S32x128, scHalf sc j 0 4⟩, ⟨S32x128, scHalf sc j 1 4⟩]
    concatenates_S32x128_S32x128_S32x256_d1) bitsLt_bf16_f32) shapeCasts_S32x256_S1x32x256

abbrev rectS (n : Nat) : Rect S8x32x256 := Rect.unit (s := S8x32x256) ![n % 8, 0, 0] S1x32x256.size (inbS n)

/-- The scaling matrices' store pieces, last first. -/
def piecesS (sc : Nat → FVec F S8x128 .f32) : Nat → List (View.Piece (Elt F) S8x32x256 .bf16)
  | 0 => []
  | n + 1 => ⟨rectS n, scMat (sc (n / 4)) (n % 4)⟩ :: piecesS sc n

/-! ## The runs are these functions of their loads -/

section
variable (c : Dev nD) (i : grid0.Coords)
  (arg1 : Memref sig .tc .vmem S16x128 .f32) (harg1 : arg1.IsWhole) (arg2 : Memref sig .tc .vmem S1x8192 .f32) (harg2 : arg2.IsWhole)
  (arg3 : Memref sig .tc .vmem S1x8192 .f32) (harg3 : arg3.IsWhole) (arg4 : Memref sig .tc .vmem S8x32x8192 .fp8e4m3) (harg4 : arg4.IsWhole)
  (arg5 : Memref sig .tc .vmem S32x8192 .bf16) (harg5 : arg5.IsWhole) (arg6 : Memref sig .tc .vmem S32x8192 .bf16) (harg6 : arg6.IsWhole)
  (arg7 : Memref sig .tc .vmem S32x8192 .fp8e4m3) (harg7 : arg7.IsWhole) (arg8 : Memref sig .tc .vmem S2x128 .f32) (harg8 : arg8.IsWhole)
  (arg9 : Memref sig .tc .vmem S8x32x256 .bf16) (harg9 : arg9.IsWhole)
  (x0 : Vec F S16x128 .f32) (x1 x2 : Vec F S1x8192 .f32) (x3 : Vec F S8x32x8192 .fp8e4m3) (x4 : Vec F S32x8192 .bf16) (xo7 : Vec F S2x128 .f32)

/-- The residual chunks from the scaling matrix and the whole staging blocks. -/
def chunks (v4 : Vec F S1x32x256 .bf16) (x1 : Vec F S1x8192 .f32) (x3 : Vec F S8x32x8192 .fp8e4m3) (x4 : Vec F S32x8192 .bf16) (n : Nat) :
    FVec F S32x1024 .bf16 :=
  k0_pay50 (k0_pay45 v4) (View.ld x3 (rectP n)) (View.ld x1 (rectB n)) (View.ld x4 (rectX n))

/-- The residual tile the body loads back, and the gain tile. -/
def back (v4 : Vec F S1x32x256 .bf16) (x1 : Vec F S1x8192 .f32) (x3 : Vec F S8x32x8192 .fp8e4m3) (x4 : Vec F S32x8192 .bf16) (n : Nat) :
    Vec F S32x128 .bf16 := View.ld (View.canon (pieces5 (chunks v4 x1 x3 x4) 8)) (rectC n)
def gains (x2 : Vec F S1x8192 .f32) (n : Nat) : Vec F S1x128 .f32 := View.ld x2 (rectG n)

/-- The scaling matrix the first point reads back from what it has just stored. -/
def matA : Vec F S1x32x256 .bf16 :=
  arg9.view.readAt (Elt F) (Rect.unit (s := S8x32x256) (k0_off1 i) S1x32x256.size (k0_off1_inb i)).toLoadRect
    (arg9.view.writes (Elt F) arg9.view.junk (kernelRun0_A.sl.HS0_8 c arg1 harg1 x0))

/-! ### The first point -/

theorem runA_h5 : kernelRun0_A.sl.H5_8 c i arg1 harg1 arg2 harg2 arg4 harg4 arg5 harg5 arg9 x0 x1 x3 x4 = pieces5 (chunks (matA c i arg1 harg1 arg9 x0) (arg2.view.read (Elt F) (harg2.unread x1)) (arg4.view.read (Elt F) (harg4.unread x3)) (arg5.view.read (Elt F) (harg5.unread x4))) 8 := rfl
theorem runA_rs : kernelRun0_A.sl.r_42 c i arg1 harg1 arg2 harg2 arg4 harg4 arg5 harg5 arg9 x0 x1 x3 x4 = k0_pay70 (meanSq (chunks (matA c i arg1 harg1 arg9 x0) (arg2.view.read (Elt F) (harg2.unread x1)) (arg4.view.read (Elt F) (harg4.unread x3)) (arg5.view.read (Elt F) (harg5.unread x4)))) := rfl
theorem runA_max : kernelRun0_A.sl.r_69 c i arg1 harg1 arg2 harg2 arg3 harg3 arg4 harg4 arg5 harg5 arg6 arg9 x0 x1 x2 x3 x4 = maxFold (kernelRun0_A.sl.r_42 c i arg1 harg1 arg2 harg2 arg4 harg4 arg5 harg5 arg9 x0 x1 x3 x4) (fun n => arg6.view.readCov (kernelRun0_A.sl.H5_8 c i arg1 harg1 arg2 harg2 arg4 harg4 arg5 harg5 arg9 x0 x1 x3 x4) (rectC n).toLoadRect) (fun n => arg3.view.readAt (Elt F) (rectG n).toLoadRect (harg3.unread x2)) 63 := rfl
theorem runA_row : kernelRun0_A.sl.r_72 c i arg1 harg1 arg2 harg2 arg3 harg3 arg4 harg4 arg5 harg5 arg6 arg9 x0 x1 x2 x3 x4 = rowMax (kernelRun0_A.sl.r_42 c i arg1 harg1 arg2 harg2 arg4 harg4 arg5 harg5 arg9 x0 x1 x3 x4) (fun n => arg6.view.readCov (kernelRun0_A.sl.H5_8 c i arg1 harg1 arg2 harg2 arg4 harg4 arg5 harg5 arg9 x0 x1 x3 x4) (rectC n).toLoadRect) (fun n => arg3.view.readAt (Elt F) (rectG n).toLoadRect (harg3.unread x2)) := by
  unfold rowMax; rw [← runA_max]; rfl
theorem runA_scale : kernelRun0_A.sl.r_78 c i arg1 harg1 arg2 harg2 arg3 harg3 arg4 harg4 arg5 harg5 arg6 arg9 x0 x1 x2 x3 x4 = scaleOf (kernelRun0_A.sl.r_42 c i arg1 harg1 arg2 harg2 arg4 harg4 arg5 harg5 arg9 x0 x1 x3 x4) (fun n => arg6.view.readCov (kernelRun0_A.sl.H5_8 c i arg1 harg1 arg2 harg2 arg4 harg4 arg5 harg5 arg9 x0 x1 x3 x4) (rectC n).toLoadRect) (fun n => arg3.view.readAt (Elt F) (rectG n).toLoadRect (harg3.unread x2)) := by
  unfold scaleOf fieldOf zeroOf rowMax; rw [← runA_max]; rfl
theorem runA_inv : kernelRun0_A.sl.r_79 c i arg1 harg1 arg2 harg2 arg3 harg3 arg4 harg4 arg5 harg5 arg6 arg9 x0 x1 x2 x3 x4 = invOf (kernelRun0_A.sl.r_42 c i arg1 harg1 arg2 harg2 arg4 harg4 arg5 harg5 arg9 x0 x1 x3 x4) (fun n => arg6.view.readCov (kernelRun0_A.sl.H5_8 c i arg1 harg1 arg2 harg2 arg4 harg4 arg5 harg5 arg9 x0 x1 x3 x4) (rectC n).toLoadRect) (fun n => arg3.view.readAt (Elt F) (rectG n).toLoadRect (harg3.unread x2)) := by
  unfold invOf fieldOf zeroOf rowMax; rw [← runA_max]; rfl
theorem runA_out5 (hc : cond0_0 i) : (kernelRun0_A c i arg1 harg1 arg2 harg2 arg3 harg3 arg4 harg4 arg5 harg5 arg6 harg6 arg7 harg7 arg8 harg8 arg9 harg9 hc x0 x1 x2 x3 x4 xo7).1 = kernelRun0_A.sl.H5_8 c i arg1 harg1 arg2 harg2 arg4 harg4 arg5 harg5 arg9 x0 x1 x3 x4 := rfl
theorem runA_out6 (hc : cond0_0 i) : (kernelRun0_A c i arg1 harg1 arg2 harg2 arg3 harg3 arg4 harg4 arg5 harg5 arg6 harg6 arg7 harg7 arg8 harg8 arg9 harg9 hc x0 x1 x2 x3 x4 xo7).2.1
    = pieces6 (fun n => codeTile (kernelRun0_A.sl.r_42 c i arg1 harg1 arg2 harg2 arg4 harg4 arg5 harg5 arg9 x0 x1 x3 x4) (kernelRun0_A.sl.r_79 c i arg1 harg1 arg2 harg2 arg3 harg3 arg4 harg4 arg5 harg5 arg6 arg9 x0 x1 x2 x3 x4) ((fun n => arg6.view.readCov (kernelRun0_A.sl.H5_8 c i arg1 harg1 arg2 harg2 arg4 harg4 arg5 harg5 arg9 x0 x1 x3 x4) (rectC n).toLoadRect) n) ((fun n => arg3.view.readAt (Elt F) (rectG n).toLoadRect (harg3.unread x2)) n)) 64 := rfl
theorem runA_out7 (hc : cond0_0 i) : (kernelRun0_A c i arg1 harg1 arg2 harg2 arg3 harg3 arg4 harg4 arg5 harg5 arg6 harg6 arg7 harg7 arg8 harg8 arg9 harg9 hc x0 x1 x2 x3 x4 xo7).2.2.1
    = [⟨Rect.unit (s := S2x128) ![0, 0] S2x128.size inb_S2x128_S2x128_0_0, k0_pay1 (BitVec.ofNat 32 (i 0).val) (kernelRun0_A.sl.r_78 c i arg1 harg1 arg2 harg2 arg3 harg3 arg4 harg4 arg5 harg5 arg6 arg9 x0 x1 x2 x3 x4)
        (Scalar.remsi (BitVec.ofNat 32 (i 0).val) 4#32) (Scalar.divsi (BitVec.ofNat 32 (i 0).val) 4#32)
        (iota Kind.tc S32x128 32 [0] iota_S32x128_d0_w32) (iota Kind.tc S32x128 32 [1] iota_S32x128_d1_w32) 32#32
        (arg8.view.readAt (Elt F) (Rect.unit (s := S2x128) ![0, 0] S2x128.size inb_S2x128_S2x128_0_0).toLoadRect (harg8.unread xo7))⟩] := rfl

theorem runA_outS (hc : cond0_0 i) : (kernelRun0_A c i arg1 harg1 arg2 harg2 arg3 harg3 arg4 harg4 arg5 harg5 arg6 harg6 arg7 harg7 arg8 harg8 arg9 harg9 hc x0 x1 x2 x3 x4 xo7).2.2.2.1
    = kernelRun0_A.sl.HS0_8 c arg1 harg1 x0 := rfl

theorem runA_hS : kernelRun0_A.sl.HS0_8 c arg1 harg1 x0
    = piecesS (fun b => shapeCast S8x128 (arg1.view.readAt (Elt F)
        (⟨![b % 2, 0], S8x128.size, ![2, 1], inbL b⟩ : LoadRect S16x128) (harg1.unread x0)) shapeCasts_S8x128_S8x128) 8 := rfl

/-! ### The later points -/

variable (xs0 : Vec F S8x32x256 .bf16)

/-- The scaling matrix a later point reads from the carried scratch. -/
def matB (xs0 : Vec F S8x32x256 .bf16) : Vec F S1x32x256 .bf16 :=
  arg9.view.readAt (Elt F) (Rect.unit (s := S8x32x256) (k0_off1 i) S1x32x256.size (k0_off1_inb i)).toLoadRect (harg9.unread xs0)

theorem runB_h5 : kernelRun0_B.sl.H5_8 c i arg2 harg2 arg4 harg4 arg5 harg5 arg9 harg9 x1 x3 x4 xs0 = pieces5 (chunks (matB i arg9 harg9 xs0) (arg2.view.read (Elt F) (harg2.unread x1)) (arg4.view.read (Elt F) (harg4.unread x3)) (arg5.view.read (Elt F) (harg5.unread x4))) 8 := rfl
theorem runB_rs : kernelRun0_B.sl.r_17 c i arg2 harg2 arg4 harg4 arg5 harg5 arg9 harg9 x1 x3 x4 xs0 = k0_pay70 (meanSq (chunks (matB i arg9 harg9 xs0) (arg2.view.read (Elt F) (harg2.unread x1)) (arg4.view.read (Elt F) (harg4.unread x3)) (arg5.view.read (Elt F) (harg5.unread x4)))) := rfl
theorem runB_max : kernelRun0_B.sl.r_44 c i arg2 harg2 arg3 harg3 arg4 harg4 arg5 harg5 arg6 arg9 harg9 x1 x2 x3 x4 xs0 = maxFold (kernelRun0_B.sl.r_17 c i arg2 harg2 arg4 harg4 arg5 harg5 arg9 harg9 x1 x3 x4 xs0) (fun n => arg6.view.readCov (kernelRun0_B.sl.H5_8 c i arg2 harg2 arg4 harg4 arg5 harg5 arg9 harg9 x1 x3 x4 xs0) (rectC n).toLoadRect) (fun n => arg3.view.readAt (Elt F) (rectG n).toLoadRect (harg3.unread x2)) 63 := rfl
theorem runB_row : kernelRun0_B.sl.r_47 c i arg2 harg2 arg3 harg3 arg4 harg4 arg5 harg5 arg6 arg9 harg9 x1 x2 x3 x4 xs0 = rowMax (kernelRun0_B.sl.r_17 c i arg2 harg2 arg4 harg4 arg5 harg5 arg9 harg9 x1 x3 x4 xs0) (fun n => arg6.view.readCov (kernelRun0_B.sl.H5_8 c i arg2 harg2 arg4 harg4 arg5 harg5 arg9 harg9 x1 x3 x4 xs0) (rectC n).toLoadRect) (fun n => arg3.view.readAt (Elt F) (rectG n).toLoadRect (harg3.unread x2)) := by
  unfold rowMax; rw [← runB_max]; rfl
theorem runB_scale : kernelRun0_B.sl.r_53 c i arg2 harg2 arg3 harg3 arg4 harg4 arg5 harg5 arg6 arg9 harg9 x1 x2 x3 x4 xs0 = scaleOf (kernelRun0_B.sl.r_17 c i arg2 harg2 arg4 harg4 arg5 harg5 arg9 harg9 x1 x3 x4 xs0) (fun n => arg6.view.readCov (kernelRun0_B.sl.H5_8 c i arg2 harg2 arg4 harg4 arg5 harg5 arg9 harg9 x1 x3 x4 xs0) (rectC n).toLoadRect) (fun n => arg3.view.readAt (Elt F) (rectG n).toLoadRect (harg3.unread x2)) := by
  unfold scaleOf fieldOf zeroOf rowMax; rw [← runB_max]; rfl
theorem runB_inv : kernelRun0_B.sl.r_54 c i arg2 harg2 arg3 harg3 arg4 harg4 arg5 harg5 arg6 arg9 harg9 x1 x2 x3 x4 xs0 = invOf (kernelRun0_B.sl.r_17 c i arg2 harg2 arg4 harg4 arg5 harg5 arg9 harg9 x1 x3 x4 xs0) (fun n => arg6.view.readCov (kernelRun0_B.sl.H5_8 c i arg2 harg2 arg4 harg4 arg5 harg5 arg9 harg9 x1 x3 x4 xs0) (rectC n).toLoadRect) (fun n => arg3.view.readAt (Elt F) (rectG n).toLoadRect (harg3.unread x2)) := by
  unfold invOf fieldOf zeroOf rowMax; rw [← runB_max]; rfl
theorem runB_out5 (hc : ¬cond0_0 i) : (kernelRun0_B c i arg1 harg1 arg2 harg2 arg3 harg3 arg4 harg4 arg5 harg5 arg6 harg6 arg7 harg7 arg8 harg8 arg9 harg9 hc x0 x1 x2 x3 x4 xo7 xs0).1 = kernelRun0_B.sl.H5_8 c i arg2 harg2 arg4 harg4 arg5 harg5 arg9 harg9 x1 x3 x4 xs0 := rfl
theorem runB_out6 (hc : ¬cond0_0 i) : (kernelRun0_B c i arg1 harg1 arg2 harg2 arg3 harg3 arg4 harg4 arg5 harg5 arg6 harg6 arg7 harg7 arg8 harg8 arg9 harg9 hc x0 x1 x2 x3 x4 xo7 xs0).2.1
    = pieces6 (fun n => codeTile (kernelRun0_B.sl.r_17 c i arg2 harg2 arg4 harg4 arg5 harg5 arg9 harg9 x1 x3 x4 xs0) (kernelRun0_B.sl.r_54 c i arg2 harg2 arg3 harg3 arg4 harg4 arg5 harg5 arg6 arg9 harg9 x1 x2 x3 x4 xs0) ((fun n => arg6.view.readCov (kernelRun0_B.sl.H5_8 c i arg2 harg2 arg4 harg4 arg5 harg5 arg9 harg9 x1 x3 x4 xs0) (rectC n).toLoadRect) n) ((fun n => arg3.view.readAt (Elt F) (rectG n).toLoadRect (harg3.unread x2)) n)) 64 := rfl
theorem runB_out7 (hc : ¬cond0_0 i) : (kernelRun0_B c i arg1 harg1 arg2 harg2 arg3 harg3 arg4 harg4 arg5 harg5 arg6 harg6 arg7 harg7 arg8 harg8 arg9 harg9 hc x0 x1 x2 x3 x4 xo7 xs0).2.2.1
    = [⟨Rect.unit (s := S2x128) ![0, 0] S2x128.size inb_S2x128_S2x128_0_0, k0_pay1 (BitVec.ofNat 32 (i 0).val) (kernelRun0_B.sl.r_53 c i arg2 harg2 arg3 harg3 arg4 harg4 arg5 harg5 arg6 arg9 harg9 x1 x2 x3 x4 xs0)
        (Scalar.remsi (BitVec.ofNat 32 (i 0).val) 4#32) (Scalar.divsi (BitVec.ofNat 32 (i 0).val) 4#32)
        (iota Kind.tc S32x128 32 [0] iota_S32x128_d0_w32) (iota Kind.tc S32x128 32 [1] iota_S32x128_d1_w32) 32#32
        (arg8.view.readAt (Elt F) (Rect.unit (s := S2x128) ![0, 0] S2x128.size inb_S2x128_S2x128_0_0).toLoadRect (harg8.unread xo7))⟩] := rfl

end
end Cert.KernelIdeal.Hand

end
-- ==== Proof.KStep.lean ====
module

public import proofs.«01_k».proof.Proof.KModel
public import Idealize.ShloMosaic.Lib.Pipeline.ValueKit.Tiles

@[expose] public section

/-! What one run of the kernel body leaves in its outputs and in the scratch, as functions of the blocks it is handed: no memref, no
    store list. Both runs leave these. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-! ## The stores cover their blocks -/

theorem mem_pieces5 (ch : Nat → FVec F S32x1024 .bf16) (n k : Nat) (h : k < n) :
    (⟨rectX k, ch k⟩ : View.Piece (Elt F) S32x8192 .bf16) ∈ pieces5 ch n := by
  induction n with
  | zero => omega
  | succ n ih =>
    unfold pieces5
    rcases Nat.lt_succ_iff_lt_or_eq.1 h with h | h
    · exact List.mem_cons_of_mem _ (ih h)
    · subst h; exact List.mem_cons_self ..
theorem mem_pieces6 (cd : Nat → FVec F S32x128 .fp8e4m3) (n k : Nat) (h : k < n) :
    (⟨rectC k, cd k⟩ : View.Piece (Elt F) S32x8192 .fp8e4m3) ∈ pieces6 cd n := by
  induction n with
  | zero => omega
  | succ n ih =>
    unfold pieces6
    rcases Nat.lt_succ_iff_lt_or_eq.1 h with h | h
    · exact List.mem_cons_of_mem _ (ih h)
    · subst h; exact List.mem_cons_self ..
theorem mem_piecesS (sc : Nat → FVec F S8x128 .f32) (n k : Nat) (h : k < n) :
    (⟨rectS k, scMat (sc (k / 4)) (k % 4)⟩ : View.Piece (Elt F) S8x32x256 .bf16) ∈ piecesS sc n := by
  induction n with
  | zero => omega
  | succ n ih =>
    unfold piecesS
    rcases Nat.lt_succ_iff_lt_or_eq.1 h with h | h
    · exact List.mem_cons_of_mem _ (ih h)
    · subst h; exact List.mem_cons_self ..

theorem of_mem_pieces5 (ch : Nat → FVec F S32x1024 .bf16) (n : Nat) (p : View.Piece (Elt F) S32x8192 .bf16) (h : p ∈ pieces5 ch n) :
    ∃ k < n, p = ⟨rectX k, ch k⟩ := by
  induction n with
  | zero => simp [pieces5] at h
  | succ n ih =>
    unfold pieces5 at h
    rcases List.mem_cons.1 h with h | h
    · exact ⟨n, Nat.lt_succ_self n, h⟩
    · obtain ⟨k, hk, e⟩ := ih h; exact ⟨k, by omega, e⟩
theorem of_mem_pieces6 (cd : Nat → FVec F S32x128 .fp8e4m3) (n : Nat) (p : View.Piece (Elt F) S32x8192 .fp8e4m3) (h : p ∈ pieces6 cd n) :
    ∃ k < n, p = ⟨rectC k, cd k⟩ := by
  induction n with
  | zero => simp [pieces6] at h
  | succ n ih =>
    unfold pieces6 at h
    rcases List.mem_cons.1 h with h | h
    · exact ⟨n, Nat.lt_succ_self n, h⟩
    · obtain ⟨k, hk, e⟩ := ih h; exact ⟨k, by omega, e⟩
theorem of_mem_piecesS (sc : Nat → FVec F S8x128 .f32) (n : Nat) (p : View.Piece (Elt F) S8x32x256 .bf16) (h : p ∈ piecesS sc n) :
    ∃ k < n, p = ⟨rectS k, scMat (sc (k / 4)) (k % 4)⟩ := by
  induction n with
  | zero => simp [piecesS] at h
  | succ n ih =>
    unfold piecesS at h
    rcases List.mem_cons.1 h with h | h
    · exact ⟨n, Nat.lt_succ_self n, h⟩
    · obtain ⟨k, hk, e⟩ := ih h; exact ⟨k, by omega, e⟩

/-- The chunk that holds a column of the residual; the tile that holds a column of the codes; the matrix that holds an entry of the scratch. -/
theorem mem_rectX (y : S32x8192.Idx) : y ∈ (rectX ((y 1).val / 1024)).set := by
  have h0 : (y 0).val < 32 := (y 0).isLt
  have h1 : (y 1).val < 8192 := (y 1).isLt
  refine Rect.mem_set_unit.2 fun a => ?_
  fin_cases a
  · show 0 ≤ (y 0).val ∧ (y 0).val < 0 + 32; omega
  · show 1024 * ((y 1).val / 1024 % 8) ≤ (y 1).val ∧ (y 1).val < 1024 * ((y 1).val / 1024 % 8) + 1024; omega
theorem mem_rectC (y : S32x8192.Idx) : y ∈ (rectC ((y 1).val / 128)).set := by
  have h0 : (y 0).val < 32 := (y 0).isLt
  have h1 : (y 1).val < 8192 := (y 1).isLt
  refine Rect.mem_set_unit.2 fun a => ?_
  fin_cases a
  · show 0 ≤ (y 0).val ∧ (y 0).val < 0 + 32; omega
  · show 128 * ((y 1).val / 128 % 64) ≤ (y 1).val ∧ (y 1).val < 128 * ((y 1).val / 128 % 64) + 128; omega
theorem mem_rectS (y : S8x32x256.Idx) : y ∈ (rectS (y 0).val).set := by
  have h0 : (y 0).val < 8 := (y 0).isLt
  have h1 : (y 1).val < 32 := (y 1).isLt
  have h2 : (y 2).val < 256 := (y 2).isLt
  refine Rect.mem_set_unit.2 fun a => ?_
  fin_cases a
  · show (y 0).val % 8 ≤ (y 0).val ∧ (y 0).val < (y 0).val % 8 + 1; omega
  · show 0 ≤ (y 1).val ∧ (y 1).val < 0 + 32; omega
  · show 0 ≤ (y 2).val ∧ (y 2).val < 0 + 256; omega

theorem cover5 (ch : Nat → FVec F S32x1024 .bf16) (y : S32x8192.Idx) : ∃ p ∈ pieces5 ch 8, y ∈ p.1.set :=
  ⟨_, mem_pieces5 ch 8 ((y 1).val / 1024) (by have h1 : (y 1).val < 8192 := (y 1).isLt; omega), mem_rectX y⟩
theorem cover6 (cd : Nat → FVec F S32x128 .fp8e4m3) (y : S32x8192.Idx) : ∃ p ∈ pieces6 cd 64, y ∈ p.1.set :=
  ⟨_, mem_pieces6 cd 64 ((y 1).val / 128) (by have h1 : (y 1).val < 8192 := (y 1).isLt; omega), mem_rectC y⟩
theorem coverS (sc : Nat → FVec F S8x128 .f32) (y : S8x32x256.Idx) : ∃ p ∈ piecesS sc 8, y ∈ p.1.set :=
  ⟨_, mem_piecesS sc 8 (y 0).val (y 0).isLt, mem_rectS y⟩

/-! ## What a run leaves -/

/-- The eight scaling matrices from the scales' block. -/
def scr (x0 : Vec F S16x128 .f32) : Vec F S8x32x256 .bf16 :=
  View.canon (piecesS (fun b => shapeCast S8x128 (fun j => x0 ((⟨![b % 2, 0], S8x128.size, ![2, 1], inbL b⟩ : LoadRect S16x128).idx j) : Vec F S8x128 .f32)
    shapeCasts_S8x128_S8x128) 8)

/-- The scaling matrix of the point at `i`. -/
def matOf (i : grid0.Coords) (S : Vec F S8x32x256 .bf16) : Vec F S1x32x256 .bf16 :=
  View.ld S (Rect.unit (s := S8x32x256) (k0_off1 i) S1x32x256.size (k0_off1_inb i))

section
variable (v4 : Vec F S1x32x256 .bf16) (x1 x2 : Vec F S1x8192 .f32) (x3 : Vec F S8x32x8192 .fp8e4m3) (x4 : Vec F S32x8192 .bf16)

/-- The residual rows, the rows' reciprocal root mean squares, their inverse scales, their codes and their scales. -/
def resOf : Vec F S32x8192 .bf16 := View.canon (pieces5 (chunks v4 x1 x3 x4) 8)
def rsOf : FVec F S32x128 .f32 := k0_pay70 (meanSq (chunks v4 x1 x3 x4))
def ivOf : FVec F S32x128 .f32 := invOf (rsOf v4 x1 x3 x4) (back v4 x1 x3 x4) (gains x2)
def sclOf : FVec F S32x128 .f32 := scaleOf (rsOf v4 x1 x3 x4) (back v4 x1 x3 x4) (gains x2)
def codOf : Vec F S32x8192 .fp8e4m3 :=
  View.canon (pieces6 (fun n => codeTile (rsOf v4 x1 x3 x4) (ivOf v4 x1 x2 x3 x4) (back v4 x1 x3 x4 n) (gains x2 n)) 64)

/-- The scale output after point `i`, from what it held before. -/
def accOf (i : grid0.Coords) (s : FVec F S32x128 .f32) (old : Vec F S2x128 .f32) : Vec F S2x128 .f32 :=
  k0_pay1 (BitVec.ofNat 32 (i 0).val) s (Scalar.remsi (BitVec.ofNat 32 (i 0).val) 4#32) (Scalar.divsi (BitVec.ofNat 32 (i 0).val) 4#32)
    (iota Kind.tc S32x128 32 [0] iota_S32x128_d0_w32) (iota Kind.tc S32x128 32 [1] iota_S32x128_d1_w32) 32#32 old

/-- At the first point what the scale output held before does not matter. -/
theorem accOf_zero (i : grid0.Coords) (hi : (i 0).val = 0) (s : FVec F S32x128 .f32) (old old' : Vec F S2x128 .f32) :
    accOf i s old = accOf i s old' := by
  unfold accOf
  rw [hi]
  rfl

end

/-! ## The runs leave these -/

theorem readAt_unread {s : Shape} {e : EltTy} (arg : Memref sig .tc .vmem s e) (harg : arg.IsWhole) (x : Vec F s e) (B : LoadRect s) :
    arg.view.readAt (Elt F) B (harg.unread x) = fun j => x (B.idx j) := by
  funext j
  rw [View.readAt_apply, harg.read_unread]

theorem whole_ld (x : Vec F S2x128 .f32) :
    (fun j => x ((Rect.unit (s := S2x128) ![0, 0] S2x128.size inb_S2x128_S2x128_0_0).toLoadRect.idx j)) = x := by
  funext j
  exact View.ld_unit_apply_of x ![0, 0] S2x128.size inb_S2x128_S2x128_0_0 j j (fun a => by fin_cases a <;> simp)

theorem cover7 (w : FVec F S2x128 .f32) (y : S2x128.Idx) :
    ∃ p ∈ ([⟨Rect.unit (s := S2x128) ![0, 0] S2x128.size inb_S2x128_S2x128_0_0, w⟩] : List (View.Piece (Elt F) S2x128 .f32)), y ∈ p.1.set :=
  ⟨_, List.mem_cons_self .., View.mem_set_unit_zero (by funext a; fin_cases a <;> rfl) inb_S2x128_S2x128_0_0 y⟩

theorem canon7 (w : FVec F S2x128 .f32) :
    View.canon ([⟨Rect.unit (s := S2x128) ![0, 0] S2x128.size inb_S2x128_S2x128_0_0, w⟩] : List (View.Piece (Elt F) S2x128 .f32)) = w := by
  funext y
  refine View.canon_apply_of_pieces w _ (fun p hp x => ?_) y (cover7 w y)
  obtain rfl := List.mem_singleton.1 hp
  exact (View.ld_unit_apply_of (Val := Elt F) (e := .f32) w ![0, 0] S2x128.size inb_S2x128_S2x128_0_0 x x (fun a => by fin_cases a <;> simp)).symm

section
variable (c : Dev nD) (i : grid0.Coords)
  (arg1 : Memref sig .tc .vmem S16x128 .f32) (harg1 : arg1.IsWhole) (arg2 : Memref sig .tc .vmem S1x8192 .f32) (harg2 : arg2.IsWhole)
  (arg3 : Memref sig .tc .vmem S1x8192 .f32) (harg3 : arg3.IsWhole) (arg4 : Memref sig .tc .vmem S8x32x8192 .fp8e4m3) (harg4 : arg4.IsWhole)
  (arg5 : Memref sig .tc .vmem S32x8192 .bf16) (harg5 : arg5.IsWhole) (arg6 : Memref sig .tc .vmem S32x8192 .bf16) (harg6 : arg6.IsWhole)
  (arg7 : Memref sig .tc .vmem S32x8192 .fp8e4m3) (harg7 : arg7.IsWhole) (arg8 : Memref sig .tc .vmem S2x128 .f32) (harg8 : arg8.IsWhole)
  (arg9 : Memref sig .tc .vmem S8x32x256 .bf16) (harg9 : arg9.IsWhole)
  (x0 : Vec F S16x128 .f32) (x1 x2 : Vec F S1x8192 .f32) (x3 : Vec F S8x32x8192 .fp8e4m3) (x4 : Vec F S32x8192 .bf16) (xo7 : Vec F S2x128 .f32)
  (xs0 : Vec F S8x32x256 .bf16)

theorem outA_S : kernelRun0_A.sl.HS0_8 c arg1 harg1 x0 = piecesS (fun b => shapeCast S8x128 (fun j => x0 ((⟨![b % 2, 0], S8x128.size, ![2, 1], inbL b⟩ : LoadRect S16x128).idx j) : Vec F S8x128 .f32)
    shapeCasts_S8x128_S8x128) 8 := by
  rw [runA_hS]
  congr 1
  funext b
  rw [readAt_unread]

theorem matA_eq : matA c i arg1 harg1 arg9 x0 = matOf i (scr x0) := by
  unfold matA
  rw [View.readAt_writes_junk_eq_canon, outA_S]
  rfl

theorem matB_eq : matB i arg9 harg9 xs0 = matOf i xs0 := by
  unfold matB
  rw [readAt_unread]
  rfl

theorem outA_h5 : kernelRun0_A.sl.H5_8 c i arg1 harg1 arg2 harg2 arg4 harg4 arg5 harg5 arg9 x0 x1 x3 x4
    = pieces5 (chunks (matOf i (scr x0)) x1 x3 x4) 8 := by
  rw [runA_h5, matA_eq, harg2.read_unread, harg4.read_unread, harg5.read_unread]
theorem outA_rs : kernelRun0_A.sl.r_42 c i arg1 harg1 arg2 harg2 arg4 harg4 arg5 harg5 arg9 x0 x1 x3 x4 = rsOf (matOf i (scr x0)) x1 x3 x4 := by
  rw [runA_rs, matA_eq, harg2.read_unread, harg4.read_unread, harg5.read_unread]; rfl
theorem outA_back : (fun n => arg6.view.readCov (kernelRun0_A.sl.H5_8 c i arg1 harg1 arg2 harg2 arg4 harg4 arg5 harg5 arg9 x0 x1 x3 x4) (rectC n).toLoadRect)
    = back (matOf i (scr x0)) x1 x3 x4 := by
  funext n
  rw [View.readCov_eq_canon', outA_h5]
  rfl
theorem out_gains : (fun n => arg3.view.readAt (Elt F) (rectG n).toLoadRect (harg3.unread x2)) = gains x2 := by
  funext n
  rw [readAt_unread]
  rfl
theorem outA_5 (hc : cond0_0 i) : (kernelRun0_A c i arg1 harg1 arg2 harg2 arg3 harg3 arg4 harg4 arg5 harg5 arg6 harg6 arg7 harg7 arg8 harg8 arg9 harg9 hc x0 x1 x2 x3 x4 xo7).1
    = pieces5 (chunks (matOf i (scr x0)) x1 x3 x4) 8 := by
  rw [runA_out5, outA_h5]
theorem outA_6 (hc : cond0_0 i) : (kernelRun0_A c i arg1 harg1 arg2 harg2 arg3 harg3 arg4 harg4 arg5 harg5 arg6 harg6 arg7 harg7 arg8 harg8 arg9 harg9 hc x0 x1 x2 x3 x4 xo7).2.1
    = pieces6 (fun n => codeTile (rsOf (matOf i (scr x0)) x1 x3 x4) (ivOf (matOf i (scr x0)) x1 x2 x3 x4) (back (matOf i (scr x0)) x1 x3 x4 n) (gains x2 n)) 64 := by
  rw [runA_out6, runA_inv, outA_back, out_gains, outA_rs]; rfl
theorem outA_7 (hc : cond0_0 i) : (kernelRun0_A c i arg1 harg1 arg2 harg2 arg3 harg3 arg4 harg4 arg5 harg5 arg6 harg6 arg7 harg7 arg8 harg8 arg9 harg9 hc x0 x1 x2 x3 x4 xo7).2.2.1
    = [⟨Rect.unit (s := S2x128) ![0, 0] S2x128.size inb_S2x128_S2x128_0_0, accOf i (sclOf (matOf i (scr x0)) x1 x2 x3 x4) xo7⟩] := by
  rw [runA_out7, runA_scale, outA_back, out_gains, outA_rs, readAt_unread, whole_ld]; rfl
theorem outA_scr (hc : cond0_0 i) : (kernelRun0_A c i arg1 harg1 arg2 harg2 arg3 harg3 arg4 harg4 arg5 harg5 arg6 harg6 arg7 harg7 arg8 harg8 arg9 harg9 hc x0 x1 x2 x3 x4 xo7).2.2.2.1
    = piecesS (fun b => shapeCast S8x128 (fun j => x0 ((⟨![b % 2, 0], S8x128.size, ![2, 1], inbL b⟩ : LoadRect S16x128).idx j) : Vec F S8x128 .f32)
    shapeCasts_S8x128_S8x128) 8 := by
  rw [runA_outS, outA_S]

theorem outB_h5 : kernelRun0_B.sl.H5_8 c i arg2 harg2 arg4 harg4 arg5 harg5 arg9 harg9 x1 x3 x4 xs0
    = pieces5 (chunks (matOf i xs0) x1 x3 x4) 8 := by
  rw [runB_h5, matB_eq, harg2.read_unread, harg4.read_unread, harg5.read_unread]
theorem outB_rs : kernelRun0_B.sl.r_17 c i arg2 harg2 arg4 harg4 arg5 harg5 arg9 harg9 x1 x3 x4 xs0 = rsOf (matOf i xs0) x1 x3 x4 := by
  rw [runB_rs, matB_eq, harg2.read_unread, harg4.read_unread, harg5.read_unread]; rfl
theorem outB_back : (fun n => arg6.view.readCov (kernelRun0_B.sl.H5_8 c i arg2 harg2 arg4 harg4 arg5 harg5 arg9 harg9 x1 x3 x4 xs0) (rectC n).toLoadRect)
    = back (matOf i xs0) x1 x3 x4 := by
  funext n
  rw [View.readCov_eq_canon', outB_h5]
  rfl
theorem outB_5 (hc : ¬cond0_0 i) : (kernelRun0_B c i arg1 harg1 arg2 harg2 arg3 harg3 arg4 harg4 arg5 harg5 arg6 harg6 arg7 harg7 arg8 harg8 arg9 harg9 hc x0 x1 x2 x3 x4 xo7 xs0).1
    = pieces5 (chunks (matOf i xs0) x1 x3 x4) 8 := by
  rw [runB_out5, outB_h5]
theorem outB_6 (hc : ¬cond0_0 i) : (kernelRun0_B c i arg1 harg1 arg2 harg2 arg3 harg3 arg4 harg4 arg5 harg5 arg6 harg6 arg7 harg7 arg8 harg8 arg9 harg9 hc x0 x1 x2 x3 x4 xo7 xs0).2.1
    = pieces6 (fun n => codeTile (rsOf (matOf i xs0) x1 x3 x4) (ivOf (matOf i xs0) x1 x2 x3 x4) (back (matOf i xs0) x1 x3 x4 n) (gains x2 n)) 64 := by
  rw [runB_out6, runB_inv, outB_back, out_gains, outB_rs]; rfl
theorem outB_7 (hc : ¬cond0_0 i) : (kernelRun0_B c i arg1 harg1 arg2 harg2 arg3 harg3 arg4 harg4 arg5 harg5 arg6 harg6 arg7 harg7 arg8 harg8 arg9 harg9 hc x0 x1 x2 x3 x4 xo7 xs0).2.2.1
    = [⟨Rect.unit (s := S2x128) ![0, 0] S2x128.size inb_S2x128_S2x128_0_0, accOf i (sclOf (matOf i xs0) x1 x2 x3 x4) xo7⟩] := by
  rw [runB_out7, runB_scale, outB_back, out_gains, outB_rs, readAt_unread, whole_ld]; rfl

end
end Cert.KernelIdeal.Hand

end
-- ==== Proof.KFrame.lean ====
module

public import proofs.«01_k».proof.Proof.KStep
public import Idealize.ShloMosaic.Lib.Claim

@[expose] public section

/-! The kernel's frame, at any value type: what its outputs and its scratch hold point by point, the proof data, the body's triple at every
    point, the run and the unchanged arguments. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs and the scratch hold after each point -/

/-- The first point. -/
abbrev pt0 : Fin cfg0.N := ⟨0, lt_of_lt_of_eq (by decide : 0 < 8) N_0.symm⟩

/-- The scratch from the first point on: the scaling matrices of the scales' block. -/
def scrAt (c : Dev nD) : Vec F S8x32x256 .bf16 := scr (iblk m c 0 pt0)
/-- The scaling matrix of point `t`. -/
def matAt (c : Dev nD) (t : Fin cfg0.N) : Vec F S1x32x256 .bf16 := matOf (grid0.coords t) (scrAt m c)
/-- The residual rows, the codes and the row scales of point `t`. -/
def resAt (c : Dev nD) (t : Fin cfg0.N) : Vec F S32x8192 .bf16 := resOf (matAt m c t) (iblk m c 1 t) (iblk m c 3 t) (iblk m c 4 t)
def codAt (c : Dev nD) (t : Fin cfg0.N) : Vec F S32x8192 .fp8e4m3 := codOf (matAt m c t) (iblk m c 1 t) (iblk m c 2 t) (iblk m c 3 t) (iblk m c 4 t)
def sclAt (c : Dev nD) (t : Fin cfg0.N) : FVec F S32x128 .f32 := sclOf (matAt m c t) (iblk m c 1 t) (iblk m c 2 t) (iblk m c 3 t) (iblk m c 4 t)
/-- The scale output after point `n`: it starts from nothing at the first point and is carried over the points. -/
def accAt (c : Dev nD) : (n : ℕ) → n < cfg0.N → Vec F S2x128 .f32
  | 0, hn => accOf (grid0.coords ⟨0, hn⟩) (sclAt m c ⟨0, hn⟩) (broadcast S2x128 (Scalar.ofBits .f32 0x00000000#32))
  | n + 1, hn => accOf (grid0.coords ⟨n + 1, hn⟩) (sclAt m c ⟨n + 1, hn⟩) (accAt c n (Nat.lt_of_succ_lt hn))

/-- The grid coordinate of a point is its position. -/
theorem coords0 (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  rw [e0]; omega

theorem accAt_first (c : Dev nD) (t : Fin cfg0.N) (h0 : t.val = 0) (old : Vec F S2x128 .f32) :
    accAt m c t.val t.isLt = accOf (grid0.coords t) (sclAt m c t) old := by
  obtain ⟨n, hn⟩ := t
  obtain rfl : n = 0 := h0
  exact accOf_zero _ (coords0 ⟨0, hn⟩) _ _ _
theorem accAt_later (c : Dev nD) (t : Fin cfg0.N) (h0 : ¬t.val = 0) :
    accAt m c t.val t.isLt = accOf (grid0.coords t) (sclAt m c t) (accAt m c (t.val - 1) (Nat.lt_of_le_of_lt (Nat.sub_le _ _) t.isLt)) := by
  obtain ⟨n, hn⟩ := t
  cases n with
  | zero => exact absurd rfl h0
  | succ n => rfl

/-- The region invariant before position `n`: before the first point every scratch at anything; afterwards the scratch at the scaling
    matrices, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scrAt m c)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scrAt m c)) ∗ (∃ r, prngReg c r)) := rfl
theorem PhiS_pos (c : Dev nD) (n : ℕ) (h : n ≤ cfg0.N) (hz : n ≠ 0) :
    PhiS m c n h = iprop(iprop(owns (c : Thread nD τ) scM0_0 fullShare (scrAt m c)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resAt m c t
    | ⟨6, _⟩ => codAt m c t
    | ⟨7, _⟩ => accAt m c t.val t.isLt
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = resAt m c t := by dsimp only [dats]
theorem after0_6 (c : Dev nD) (t : Fin cfg0.N) : (dats m 0 c).after 6 t = codAt m c t := by dsimp only [dats]
theorem after0_7 (c : Dev nD) (t : Fin cfg0.N) : (dats m 0 c).after 7 t = accAt m c t.val t.isLt := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- After the first point output 7's staging buffer holds what the body left at the point before: it is not written back between. -/
theorem before0_7_B (c : Dev nD) (t : Fin cfg0.N) (h0 : ¬t.val = 0) (d) :
    (dats m 0 c).before 7 t d = accAt m c (t.val - 1) (Nat.lt_of_le_of_lt (Nat.sub_le _ _) t.isLt) := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem eq_pt0 (t : Fin cfg0.N) (hz : t.val = 0) : t = pt0 := Fin.ext hz
theorem matAt_first (c : Dev nD) (t : Fin cfg0.N) (hz : t.val = 0) : matAt m c t = matOf (grid0.coords t) (scr (iblk m c 0 t)) := by
  rw [eq_pt0 t hz]; rfl

set_option maxHeartbeats 8000000 in
/-- The body at any point: the inputs' memrefs hold their blocks, the invariant hands the body the scratch, and the run of the point's case
    leaves the outputs at what the definitions above say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 8 := lt_of_lt_of_eq t.isLt (show cfg0.N = 8 from N_0)
  by_cases hz : t.val = 0
  · rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr (by omega)) (iblk m c 0 t) (iblk m c 1 t) (iblk m c 2 t) (iblk m c 3 t) (iblk m c 4 t) _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    iintro ⟨H0, H1, H2, H3, H4, ⟨%e5, H5⟩, ⟨%e6, H6⟩, ⟨%e7, H7⟩, ⟨%es0, HS0⟩⟩
    isplitl [HS0 Hg]
    · isplitl [HS0]
      · unfold owns; iexists _; isplitr
        swap; · iexact HS0
        ipureintro
        rw [outA_scr, View.read_writes_eq_canon _ _ _ (coverS _)]
        rw [eq_pt0 t hz]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      rw [outA_5, View.read_writes_eq_canon _ _ _ (cover5 _)]
      unfold resAt; rw [matAt_first m c t hz]; rfl
    isplitl [H6]
    · unfold owns; iexists _; isplitr
      swap; · iexact H6
      ipureintro
      rw [outA_6, View.read_writes_eq_canon _ _ _ (cover6 _)]
      unfold codAt; rw [matAt_first m c t hz]; rfl
    unfold owns; iexists _; isplitr
    swap; · iexact H7
    ipureintro
    rw [outA_7, View.read_writes_eq_canon _ _ _ (cover7 _), canon7]
    rw [accAt_first m c t hz, sclAt, matAt_first m c t hz]
  · rw [PhiS_castSucc m c t, PhiS_pos m c _ _ hz]
    simp only [before0_7_B m c t hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => hz (by have := (hcond0_0 t).mp h; omega)) (iblk m c 0 t) (iblk m c 1 t) (iblk m c 2 t) (iblk m c 3 t) (iblk m c 4 t) _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    iintro ⟨H0, H1, H2, H3, H4, ⟨%e5, H5⟩, ⟨%e6, H6⟩, ⟨%e7, H7⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      rw [outB_5, View.read_writes_eq_canon _ _ _ (cover5 _)]
      unfold resAt; rfl
    isplitl [H6]
    · unfold owns; iexists _; isplitr
      swap; · iexact H6
      ipureintro
      rw [outB_6, View.read_writes_eq_canon _ _ _ (cover6 _)]
      unfold codAt; rfl
    unfold owns; iexists _; isplitr
    swap; · iexact H7
    ipureintro
    rw [outB_7, View.read_writes_eq_canon _ _ _ (cover7 _), canon7]
    rw [accAt_later m c t hz]; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame at any value type: every execution ends, with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.KScratch.lean ====
module

public import proofs.«01_k».proof.Proof.KModel
public import Idealize.ShloMosaic.Lib.Pointwise
public import Idealize.ShloMosaic.Lib.KernelVsHost

@[expose] public section

/-! The scaling matrices over the reals: entry `(t, 32 n + u)` of the matrix of tile `j` is the scale of shard `n` at row `32 j + t` where
    `u = t`, and zero elsewhere. -/

set_option maxRecDepth 16384

noncomputable section

namespace Cert.KernelIdeal.Hand

open Cert.KernelIdeal.Gen
open Idealize.ShloMosaic Idealize.ShloMosaic.TcCoe Idealize.ShloMosaic.Tactic

/-- The band test: lane `l` is row `t` shifted by `32 q`. -/
theorem band_iff (t : Fin 32) (l : Fin 128) (q : Nat) (hq : q < 4) :
    (BitVec.ofNat 32 l.val = IntOp.addi (BitVec.ofNat 32 t.val) (BitVec.ofNat 32 (32 * q))) ↔ l.val = t.val + 32 * q := by
  unfold IntOp.addi
  constructor
  · intro h
    have h := congrArg BitVec.toNat h
    simp only [BitVec.toNat_ofNat, BitVec.toNat_add] at h
    omega
  · intro h; rw [h]; exact (BitVec.ofNat_add _ _)

theorem select_eq {α : Type} {w : Nat} (x y : BitVec w) (a b : α) : Scalar.select (IntOp.cmpi .eq x y) a b = if x = y then a else b := by
  unfold Scalar.select IntOp.cmpi
  by_cases h : x = y
  · simp [h]
  · have hb : (x == y) = false := by simpa using h
    simp [h, hb]

theorem scHalf_apply (sc : FVec Ideal S8x128 .f32) (j h q : Nat) (hj : j < 4) (hh : h < 2) (hq : q ≤ 4) (t : Fin 32) (l : Fin 128) :
    scHalf sc j h q (ix2 t l)
      = if l.val % 32 = t.val ∧ l.val / 32 < q then sc (ix2 ⟨4 * h + l.val / 32, by omega⟩ ⟨t.val + 32 * j, by omega⟩) else 0 := by
  induction q with
  | zero => pointwise [scHalf]; simp
  | succ q ih =>
    have ih := ih (by omega)
    pointwise [scHalf]
    rw [select_eq, ih]
    have hb := band_iff t l q (by omega)
    by_cases hl : l.val = t.val + 32 * q
    · rw [if_pos (hb.2 hl), if_pos (by omega)]
      congr 2
      · apply Fin.ext; show (4 * h + q) % 8 = 4 * h + l.val / 32; omega
      · apply Fin.ext
        show (l.val + 128 - (BitVec.ofNat 32 (32 * (q + 4 - j) % 128)).toNat % 128) % 128 = t.val + 32 * j
        rw [BitVec.toNat_ofNat]; omega
    · rw [if_neg (fun h => hl (hb.1 h))]
      by_cases hc : l.val % 32 = t.val ∧ l.val / 32 < q
      · rw [if_pos hc, if_pos (by omega)]
      · rw [if_neg hc, if_neg (by omega)]

theorem scMat_apply (sc : FVec Ideal S8x128 .f32) (j : Nat) (hj : j < 4) (t : Fin 32) (k : Fin 256) :
    scMat sc j (ix3 (0 : Fin 1) t k)
      = if k.val % 32 = t.val then sc (ix2 ⟨k.val / 32, by omega⟩ ⟨t.val + 32 * j, by omega⟩) else 0 := by
  pointwise [scMat]
  by_cases h : k.val < 128
  · rw [dif_pos h, scHalf_apply sc j 0 4 hj (by omega) (by omega)]
    by_cases hc : k.val % 32 = t.val
    · rw [if_pos ⟨hc, by omega⟩, if_pos hc]
      congr 2; apply Fin.ext; show 4 * 0 + k.val / 32 = k.val / 32; omega
    · rw [if_neg (fun h => hc h.1), if_neg hc]
  · rw [dif_neg h, scHalf_apply sc j 1 4 hj (by omega) (by omega)]
    by_cases hc : k.val % 32 = t.val
    · rw [if_pos ⟨by show (k.val - 128) % 32 = t.val; omega, by show (k.val - 128) / 32 < 4; omega⟩, if_pos hc]
      congr 2; apply Fin.ext; show 4 * 1 + (k.val - 128) / 32 = k.val / 32; omega
    · rw [if_neg (fun h => hc (by have : (k.val - 128) % 32 = t.val := h.1; omega)), if_neg hc]

end Cert.KernelIdeal.Hand

end
-- ==== Proof.KSpec.lean ====
module

public import Idealize.ShloMosaic.Lib.Pointwise

@[expose] public section

/-! The quantiser over the extended reals, as plain functions of one row: the mean of squares, the normalised entries, their largest absolute
    value, the power-of-two scale, its inverse and the code of an entry. Columns are natural numbers. -/

set_option maxRecDepth 16384

noncomputable section

namespace Cert.Spec

open Idealize.ShloMosaic
open scoped BigOperators

/-- The value of the pattern with exponent field `n` and no sign or significand bit. -/
def pw (n : Nat) : EReal := Ideal.ofBits .f32 (BitVec.ofNat 32 (n * 2 ^ 23))

theorem pw_bits : ∀ n : Fin 256, (BitVec.ofNat 32 (n.val * 2 ^ 23)).extractLsb' 31 1 = 0#1
    ∧ ((BitVec.ofNat 32 (n.val * 2 ^ 23)).extractLsb' 23 8).toNat = n.val ∧ ((BitVec.ofNat 32 (n.val * 2 ^ 23)).extractLsb' 0 23).toNat = 0 := by
  decide +kernel

theorem pw_eq (n : Nat) (h1 : 1 ≤ n) (h2 : n ≤ 254) : pw n = (((2 : ℝ) ^ ((n : Int) - 127) : ℝ) : EReal) := by
  obtain ⟨a, b, c⟩ := pw_bits ⟨n, by omega⟩
  show Ideal.ieee 8 23 (BitVec.ofNat 32 (n * 2 ^ 23)) = _
  unfold Ideal.ieee
  simp only [] at a b c
  simp only [a, b, c]
  rw [if_neg (by omega), if_neg (by omega)]
  congr 1
  have e : ((n : Int) - 127) = 23 + ((n : Int) - (2 ^ (8 - 1) - 1) - (23 : Nat)) := by norm_num
  rw [e, zpow_add₀ (by norm_num)]
  norm_num

theorem pw_zero : pw 0 = 0 := by
  obtain ⟨a, b, c⟩ := pw_bits ⟨0, by omega⟩
  show Ideal.ieee 8 23 (BitVec.ofNat 32 (0 * 2 ^ 23)) = _
  unfold Ideal.ieee
  simp only [] at a b c
  simp only [a, b, c]
  norm_num

theorem pw_top : pw 255 = ⊤ := by
  obtain ⟨a, b, c⟩ := pw_bits ⟨255, by omega⟩
  show Ideal.ieee 8 23 (BitVec.ofNat 32 (255 * 2 ^ 23)) = _
  unfold Ideal.ieee
  simp only [] at a b c
  simp only [a, b, c]
  norm_num

theorem pw_pos (n : Nat) (h1 : 1 ≤ n) (h2 : n ≤ 255) : 0 < pw n := by
  by_cases h : n = 255
  · subst h; rw [pw_top]; exact EReal.zero_lt_top
  · rw [pw_eq n h1 (by omega)]; exact EReal.coe_pos.2 (zpow_pos (by norm_num) _)

theorem pw_mono {a b : Nat} (h : a ≤ b) (hb : b ≤ 255) : pw a ≤ pw b := by
  by_cases h255 : b = 255
  · subst h255; rw [pw_top]; exact le_top
  by_cases ha : a = 0
  · subst ha; rw [pw_zero]
    by_cases hb0 : b = 0
    · subst hb0; rw [pw_zero]
    · exact (pw_pos b (by omega) hb).le
  rw [pw_eq a (by omega) (by omega), pw_eq b (by omega) (by omega)]
  exact EReal.coe_le_coe_iff.2 (zpow_le_zpow_right₀ (by norm_num) (by omega))

/-! ## The exponent -/

/-- How many of the powers `2⁻¹²⁶ … 2¹²⁶` are at most `v`. -/
def cnt (v : EReal) : Nat := ((Finset.range 253).filter fun k => pw (k + 1) ≤ v).card

/-- The scale's exponent: that of `frexp` for `v` in `[2⁻¹²⁶, 2¹²⁶)`, else zero. -/
def expo (v : EReal) : Int := if pw 1 ≤ v ∧ v < pw 253 then (cnt v : Int) - 126 else 0

def scale (v : EReal) : EReal := (((2 : ℝ) ^ expo v : ℝ) : EReal)
def inv (v : EReal) : EReal := (((2 : ℝ) ^ (-expo v) : ℝ) : EReal)

theorem cnt_eq (v : EReal) (f : Nat) (hf : f ≤ 252) (h1 : pw f ≤ v) (h2 : v < pw (f + 1)) : cnt v = f := by
  unfold cnt
  have : ((Finset.range 253).filter fun k => pw (k + 1) ≤ v) = Finset.range f := by
    ext k
    simp only [Finset.mem_filter, Finset.mem_range]
    constructor
    · rintro ⟨hk, hv⟩
      by_contra hc
      exact absurd (h2.trans_le ((pw_mono (by omega) (by omega)).trans hv)) (lt_irrefl _)
    · intro hk
      exact ⟨by omega, (pw_mono (by omega) (by omega)).trans h1⟩
  rw [this, Finset.card_range]

/-! ## The search for it -/

/-- One step of the search. -/
def step (v : EReal) (f k : Nat) : Nat := if pw (f + k) ≤ v then f + k else f

theorem step_inv (v : EReal) (f k : Nat) (h : f + 2 * k ≤ 256) (h1 : pw f ≤ v) (h2 : f + 2 * k = 256 ∨ v < pw (f + 2 * k)) :
    step v f k + k ≤ 256 ∧ pw (step v f k) ≤ v ∧ (step v f k + k = 256 ∨ v < pw (step v f k + k)) := by
  unfold step
  split_ifs with hc
  · refine ⟨by omega, hc, ?_⟩
    rw [show f + k + k = f + 2 * k by omega]; exact h2
  · exact ⟨by omega, h1, Or.inr (not_le.1 hc)⟩

/-- The whole search. -/
def search (v : EReal) : Nat :=
  step v (step v (step v (step v (step v (step v (step v (step v 0 128) 64) 32) 16) 8) 4) 2) 1

theorem search_spec (v : EReal) (hv : 0 ≤ v) : search v ≤ 255 ∧ pw (search v) ≤ v ∧ (search v = 255 ∨ v < pw (search v + 1)) := by
  unfold search
  obtain ⟨a, b, c⟩ := step_inv v 0 128 (by norm_num) (by rw [pw_zero]; exact hv) (Or.inl (by norm_num))
  obtain ⟨a, b, c⟩ := step_inv v _ 64 a b c
  obtain ⟨a, b, c⟩ := step_inv v _ 32 a b c
  obtain ⟨a, b, c⟩ := step_inv v _ 16 a b c
  obtain ⟨a, b, c⟩ := step_inv v _ 8 a b c
  obtain ⟨a, b, c⟩ := step_inv v _ 4 a b c
  obtain ⟨a, b, c⟩ := step_inv v _ 2 a b c
  obtain ⟨a, b, c⟩ := step_inv v _ 1 a b c
  exact ⟨by omega, b, c.imp (by omega) id⟩

theorem search_le (v : EReal) (hv : 0 ≤ v) (h : v < pw 253) : search v ≤ 252 := by
  obtain ⟨a, b, c⟩ := search_spec v hv
  by_contra hc
  exact absurd ((pw_mono (by omega) a).trans b) (not_le.2 h)

theorem search_cnt (v : EReal) (hv : 0 ≤ v) (h : v < pw 253) : search v = cnt v := by
  obtain ⟨a, b, c⟩ := search_spec v hv
  have := search_le v hv h
  exact (cnt_eq v _ this b (c.resolve_left (by omega))).symm

theorem search_pos (v : EReal) (hv : 0 ≤ v) : 1 ≤ search v ↔ pw 1 ≤ v := by
  obtain ⟨a, b, c⟩ := search_spec v hv
  constructor
  · intro h; exact (pw_mono h a).trans b
  · intro h
    by_contra hc
    have h0 : search v = 0 := by omega
    rw [h0] at c
    exact absurd h (not_le.2 (c.resolve_left (by omega)))

/-! ## Words -/

theorem shli_pw : ∀ n : Fin 256, IntOp.shli .vector (BitVec.ofNat 32 n.val) 23#32 = BitVec.ofNat 32 (n.val * 2 ^ 23) := by decide +kernel

theorem ofBits_shli (n : Nat) (h : n < 256) : Ideal.ofBits .f32 (IntOp.shli .vector (BitVec.ofNat 32 n) 23#32) = pw n :=
  congrArg (Ideal.ofBits .f32) (shli_pw ⟨n, h⟩)

/-- One step of the search, on words. -/
def stepW (v : EReal) (f k : BitVec 32) : BitVec 32 :=
  Scalar.select (FloatOps.cmpf (F := Ideal) (φ := .f32) .oge v (Ideal.ofBits .f32 (IntOp.shli .vector (IntOp.addi f k) 23#32))) (IntOp.addi f k) f

theorem select_oge (v w : EReal) {α : Type} (a b : α) :
    Scalar.select (FloatOps.cmpf (F := Ideal) (φ := .f32) .oge v w) a b = if w ≤ v then a else b := by
  show Scalar.select (BitVec.ofBool (decide (w ≤ v))) a b = _
  unfold Scalar.select
  by_cases h : w ≤ v <;> simp [h]

theorem stepW_eq (v : EReal) (f k : Nat) (h : f + k < 256) : stepW v (BitVec.ofNat 32 f) (BitVec.ofNat 32 k) = BitVec.ofNat 32 (step v f k) := by
  unfold stepW step
  have e : IntOp.addi (BitVec.ofNat 32 f) (BitVec.ofNat 32 k) = BitVec.ofNat 32 (f + k) := (BitVec.ofNat_add _ _).symm
  rw [e, ofBits_shli _ h, select_oge]
  split_ifs <;> rfl

theorem searchW (v : EReal) (hv : 0 ≤ v) :
    stepW v (stepW v (stepW v (stepW v (stepW v (stepW v (stepW v (stepW v 0#32 128#32) 64#32) 32#32) 16#32) 8#32) 4#32) 2#32) 1#32
      = BitVec.ofNat 32 (search v) := by
  unfold search
  obtain ⟨a, b, c⟩ := step_inv v 0 128 (by norm_num) (by rw [pw_zero]; exact hv) (Or.inl (by norm_num))
  rw [stepW_eq v 0 128 (by omega), stepW_eq v _ 64 (by omega)]
  obtain ⟨a, b, c⟩ := step_inv v _ 64 a b c
  rw [stepW_eq v _ 32 (by omega)]
  obtain ⟨a, b, c⟩ := step_inv v _ 32 a b c
  rw [stepW_eq v _ 16 (by omega)]
  obtain ⟨a, b, c⟩ := step_inv v _ 16 a b c
  rw [stepW_eq v _ 8 (by omega)]
  obtain ⟨a, b, c⟩ := step_inv v _ 8 a b c
  rw [stepW_eq v _ 4 (by omega)]
  obtain ⟨a, b, c⟩ := step_inv v _ 4 a b c
  rw [stepW_eq v _ 2 (by omega)]
  obtain ⟨a, b, c⟩ := step_inv v _ 2 a b c
  rw [stepW_eq v _ 1 (by omega)]

/-- The exponent field with its cap, on words. -/
def fieldW (v : EReal) : BitVec 32 := if pw 253 ≤ v then 255#32 else BitVec.ofNat 32 (search v)

/-- The scale's exponent from the field, on words. -/
def expoW (a : EReal) (f : BitVec 32) (z : BitVec 1) : BitVec 32 :=
  Scalar.select (IntOp.ori (IntOp.ori z (IntOp.cmpi .eq f 255#32)) (BitVec.ofBool (decide (a = 0)))) 0#32 (IntOp.subi f 126#32)

theorem expoW_words : ∀ n : Fin 253, 1 ≤ n.val →
    IntOp.addi 127#32 (Scalar.select (IntOp.ori (IntOp.ori (IntOp.cmpi .eq (BitVec.ofNat 32 n.val) 0#32) (IntOp.cmpi .eq (BitVec.ofNat 32 n.val) 255#32)) 0#1) 0#32 (IntOp.subi (BitVec.ofNat 32 n.val) 126#32)) = BitVec.ofNat 32 (n.val + 1)
    ∧ IntOp.subi 127#32 (Scalar.select (IntOp.ori (IntOp.ori (IntOp.cmpi .eq (BitVec.ofNat 32 n.val) 0#32) (IntOp.cmpi .eq (BitVec.ofNat 32 n.val) 255#32)) 0#1) 0#32 (IntOp.subi (BitVec.ofNat 32 n.val) 126#32)) = BitVec.ofNat 32 (253 - n.val) := by
  decide +kernel

theorem expoW_zero (a : EReal) (f : BitVec 32) (h : f = 0#32 ∨ f = 255#32) : expoW a f (IntOp.cmpi .eq f 0#32) = 0#32 := by
  unfold expoW
  generalize BitVec.ofBool (decide (a = 0)) = z
  rcases h with rfl | rfl <;> revert z <;> decide +kernel

theorem scaleW (a v : EReal) (hv : 0 ≤ v) (ha : a = 0 → v = 0) :
    Ideal.ofBits .f32 (IntOp.shli .vector (IntOp.addi 127#32 (expoW a (fieldW v) (IntOp.cmpi .eq (fieldW v) 0#32))) 23#32) = scale v
    ∧ Ideal.ofBits .f32 (IntOp.shli .vector (IntOp.subi 127#32 (expoW a (fieldW v) (IntOp.cmpi .eq (fieldW v) 0#32))) 23#32) = inv v := by
  by_cases h : pw 1 ≤ v ∧ v < pw 253
  · have hf : fieldW v = BitVec.ofNat 32 (search v) := if_neg (not_le.2 h.2)
    have h1 : 1 ≤ search v := (search_pos v hv).2 h.1
    have h2 : search v ≤ 252 := search_le v hv h.2
    have ha0 : a ≠ 0 := fun e => absurd (h.1.trans_eq (ha e)) (not_le.2 (pw_pos 1 (by norm_num) (by norm_num)))
    have he : expo v = (search v : Int) - 126 := by unfold expo; rw [if_pos h, search_cnt v hv h.2]
    obtain ⟨e1, e2⟩ := expoW_words ⟨search v, by omega⟩ h1
    unfold expoW
    rw [hf, show BitVec.ofBool (decide (a = 0)) = 0#1 by simp [ha0]]
    constructor
    · refine (congrArg (fun w => Ideal.ofBits .f32 (IntOp.shli .vector w 23#32)) e1).trans ?_
      show Ideal.ofBits .f32 (IntOp.shli .vector (BitVec.ofNat 32 (search v + 1)) 23#32) = _
      rw [ofBits_shli _ (by omega), pw_eq _ (by omega) (by omega)]
      unfold scale; rw [he]; congr 2; push_cast; ring
    · refine (congrArg (fun w => Ideal.ofBits .f32 (IntOp.shli .vector w 23#32)) e2).trans ?_
      show Ideal.ofBits .f32 (IntOp.shli .vector (BitVec.ofNat 32 (253 - search v)) 23#32) = _
      rw [ofBits_shli _ (by omega), pw_eq _ (by omega) (by omega)]
      unfold inv; rw [he]; congr 2; rw [Nat.cast_sub (by omega)]; push_cast; ring
  · have he : expo v = 0 := if_neg h
    have hf : fieldW v = 0#32 ∨ fieldW v = 255#32 := by
      unfold fieldW
      by_cases hc : pw 253 ≤ v
      · right; rw [if_pos hc]
      · left; rw [if_neg hc]
        have : search v = 0 := by
          by_contra hn
          exact h ⟨(search_pos v hv).1 (by omega), not_le.1 hc⟩
        rw [this]
    rw [expoW_zero a _ hf]
    have e1 : IntOp.addi 127#32 0#32 = BitVec.ofNat 32 127 := by decide
    have e2 : IntOp.subi 127#32 0#32 = BitVec.ofNat 32 127 := by decide
    rw [e1, e2, ofBits_shli 127 (by norm_num), pw_eq 127 (by norm_num) (by norm_num)]
    unfold scale inv; rw [he]
    norm_num

/-! ## One row -/

/-- The mean of squares of the row's 8192 entries. -/
def msq (R : Nat → EReal) : EReal := (∑ d ∈ Finset.range 8192, R d * R d) * Ideal.ofBits .f32 0x39000000#32

/-- The reciprocal root mean square. -/
def rms (R : Nat → EReal) : EReal := Ideal.rsqrt (msq R + Ideal.ofBits .f32 0x358637BD#32)

/-- A normalised entry. -/
def nrm (R g : Nat → EReal) (d : Nat) : EReal := R d * rms R * g d

/-- The largest absolute value of the normalised row. -/
def amax (R g : Nat → EReal) : EReal := (Finset.range 8192).sup fun d => max (nrm R g d) (-nrm R g d)

/-- The largest absolute value over 448. -/
def amax448 (R g : Nat → EReal) : EReal := amax R g * Ideal.ofBits .f32 0x3B124925#32

/-- The row's scale, and its entries' codes. -/
def rowScale (R g : Nat → EReal) : EReal := scale (amax448 R g)
def code (R g : Nat → EReal) (d : Nat) : EReal :=
  min (Ideal.ofBits .f32 0x43E00000#32) (max (Ideal.ofBits .f32 0xC3E00000#32) (nrm R g d * inv (amax448 R g)))

theorem absE_nonneg (x : EReal) : 0 ≤ max x (-x) := by
  rcases le_total 0 x with h | h
  · exact h.trans (le_max_left _ _)
  · exact (EReal.neg_nonneg.2 h).trans (le_max_right _ _)

theorem amax_nonneg (R g : Nat → EReal) : 0 ≤ amax R g :=
  (absE_nonneg _).trans (Finset.le_sup (f := fun d => max (nrm R g d) (-nrm R g d)) (Finset.mem_range.2 (show 0 < 8192 by norm_num)))

theorem c448_nonneg : 0 ≤ Ideal.ofBits .f32 0x3B124925#32 := by
  show 0 ≤ Ideal.ieee 8 23 0x3B124925#32
  unfold Ideal.ieee
  simp only [show ((0x3B124925#32).extractLsb' (8 + 23) 1 == 1#1) = false by decide, show ((0x3B124925#32).extractLsb' 23 8).toNat = 118 by decide]
  rw [if_neg (by norm_num), if_neg (by norm_num)]
  rw [← EReal.coe_zero, EReal.coe_le_coe_iff]
  simp only [Bool.false_eq_true, if_false]
  positivity

theorem amax448_nonneg (R g : Nat → EReal) : 0 ≤ amax448 R g := mul_nonneg (amax_nonneg R g) c448_nonneg

/-- Tiles of 128 columns: the sum over 64 tiles and 128 lanes is the sum over the row. -/
theorem sum_tiles (f : Nat → EReal) : ∑ l : Fin 128, ∑ n ∈ Finset.range 64, f (128 * n + l.val) = ∑ d ∈ Finset.range 8192, f d := by
  rw [Finset.sum_comm, Finset.sum_range (f := f), Finset.sum_range]
  rw [← (finProdFinEquiv (m := 64) (n := 128)).sum_comp (fun d : Fin 8192 => f d.val), Fintype.sum_prod_type]
  refine Finset.sum_congr rfl fun n _ => Finset.sum_congr rfl fun l _ => ?_
  show _ = f ((l.val + 128 * n.val))
  rw [add_comm]

/-- The maximum over 128 lanes of the running maximum over 64 tiles, started at zero, is the largest of the row. -/
theorem sup_tiles (f : Nat → EReal) (hf : ∀ d, 0 ≤ f d) :
    (Finset.univ : Finset (Fin 128)).sup (fun l => max 0 ((Finset.range 64).sup fun n => f (128 * n + l.val))) = (Finset.range 8192).sup f := by
  apply le_antisymm
  · refine Finset.sup_le fun l _ => max_le ?_ (Finset.sup_le fun n hn => ?_)
    · exact (hf 0).trans (Finset.le_sup (f := f) (Finset.mem_range.2 (show 0 < 8192 by norm_num)))
    · have := Finset.mem_range.1 hn
      exact Finset.le_sup (f := f) (Finset.mem_range.2 (show 128 * n + l.val < 8192 by have := l.isLt; omega))
  · refine Finset.sup_le fun d hd => ?_
    have := Finset.mem_range.1 hd
    refine le_trans ?_ (Finset.le_sup (b := (⟨d % 128, by omega⟩ : Fin 128)) (Finset.mem_univ _))
    refine le_trans ?_ (le_max_right _ _)
    refine le_trans (le_of_eq ?_) (Finset.le_sup (b := d / 128) (Finset.mem_range.2 (by omega)))
    show f d = f (128 * (d / 128) + d % 128)
    rw [Nat.div_add_mod]

theorem ofBits_negInf : Ideal.ofBits .f32 0xFF800000#32 = (⊥ : EReal) := by
  show Ideal.ieee 8 23 0xFF800000#32 = _
  unfold Ideal.ieee
  simp only [show ((0xFF800000#32).extractLsb' (8 + 23) 1 == 1#1) = true by decide, show ((0xFF800000#32).extractLsb' 23 8).toNat = 255 by decide,
    show ((0xFF800000#32).extractLsb' 0 23).toNat = 0 by decide]
  norm_num

/-- A maximum folded from minus infinity is the supremum. -/
theorem fold_max_sup {ι : Type} (s : Finset ι) (f : ι → EReal) : Finset.fold max (Ideal.ofBits .f32 0xFF800000#32) f s = s.sup f := by
  rw [ofBits_negInf]; rfl

end Cert.Spec

end
-- ==== Proof.KSem.lean ====
module

public import proofs.«01_k».proof.Proof.KScratch
public import proofs.«01_k».proof.Proof.KSpec

@[expose] public section

/-! The body's data flow over the reals: from residual chunks holding rows `R` and gain tiles holding `G`, the factor is the reciprocal root
    mean square of each row, the running maximum its largest normalised absolute value, and the scale and codes those of the specification. -/

set_option maxRecDepth 16384

noncomputable section

namespace Cert.KernelIdeal.Hand

open Cert.KernelIdeal.Gen
open Idealize.ShloMosaic Idealize.ShloMosaic.TcCoe Idealize.ShloMosaic.Tactic
open Cert.Spec
open scoped BigOperators

section
variable (R : Fin 32 → Nat → EReal) (G : Nat → EReal) (ch : Nat → FVec Ideal S32x1024 .bf16)

theorem sqTile_apply (hch : ∀ n < 8, ∀ t l, ch n (ix2 t l) = R t (1024 * n + l.val)) (n : Nat) (hn : n < 64) (t : Fin 32) (l : Fin 128) :
    sqTile ch n (ix2 t l) = R t (128 * n + l.val) := by
  pointwise [sqTile]
  rw [hch _ (by omega)]
  congr 1
  show 1024 * (n / 8) + (128 * (n % 8) + l.val) = _
  omega

theorem sqFold_apply (hch : ∀ n < 8, ∀ t l, ch n (ix2 t l) = R t (1024 * n + l.val)) (n : Nat) (hn : n ≤ 64) (t : Fin 32) (l : Fin 128) :
    sqFold ch n (ix2 t l) = ∑ k ∈ Finset.range n, R t (128 * k + l.val) * R t (128 * k + l.val) := by
  induction n with
  | zero => pointwise [sqFold]; simp
  | succ n ih =>
    pointwise [sqFold]
    rw [ih (by omega), sqTile_apply R ch hch n (by omega), Finset.sum_range_succ]

theorem rs_apply (hch : ∀ n < 8, ∀ t l, ch n (ix2 t l) = R t (1024 * n + l.val)) (t : Fin 32) (l : Fin 128) :
    k0_pay70 (meanSq ch) (ix2 t l) = rms (R t) := by
  pointwise [meanSq, k0_pay70]
  unfold rms msq
  rw [← sum_tiles (fun d => R t d * R t d)]
  simp only [sqFold_apply R ch hch 64 le_rfl]

variable (rs : FVec Ideal S32x128 .f32) (rr : Nat → Vec Ideal S32x128 .bf16) (g : Nat → Vec Ideal S1x128 .f32)

theorem normTile_apply (hrs : ∀ t l, rs (ix2 t l) = rms (R t)) (hrr : ∀ n < 64, ∀ t l, rr n (ix2 t l) = R t (128 * n + l.val))
    (hg : ∀ n < 64, ∀ l, g n (ix2 0 l) = G (128 * n + l.val)) (n : Nat) (hn : n < 64) (t : Fin 32) (l : Fin 128) :
    normTile rs (rr n) (g n) (ix2 t l) = nrm (R t) G (128 * n + l.val) := by
  pointwise [normTile, k0_pay183]
  rw [hrs, hrr n hn, hg n hn]; rfl

theorem maxFold_apply (hrs : ∀ t l, rs (ix2 t l) = rms (R t)) (hrr : ∀ n < 64, ∀ t l, rr n (ix2 t l) = R t (128 * n + l.val))
    (hg : ∀ n < 64, ∀ l, g n (ix2 0 l) = G (128 * n + l.val)) (n : Nat) (hn : n ≤ 64) (t : Fin 32) (l : Fin 128) :
    maxFold rs rr g n (ix2 t l)
      = max 0 ((Finset.range n).sup fun k => max (nrm (R t) G (128 * k + l.val)) (-nrm (R t) G (128 * k + l.val))) := by
  induction n with
  | zero => pointwise [maxFold]; simp
  | succ n ih =>
    have h : maxFold rs rr g (n + 1) (ix2 t l)
        = max (maxFold rs rr g n (ix2 t l)) (max (normTile rs (rr n) (g n) (ix2 t l)) (-normTile rs (rr n) (g n) (ix2 t l))) := rfl
    rw [h, ih (by omega), normTile_apply R G rs rr g hrs hrr hg n (by omega), Finset.range_add_one, Finset.sup_insert, max_assoc]
    congr 1
    exact max_comm _ _

theorem rowMax_apply (hrs : ∀ t l, rs (ix2 t l) = rms (R t)) (hrr : ∀ n < 64, ∀ t l, rr n (ix2 t l) = R t (128 * n + l.val))
    (hg : ∀ n < 64, ∀ l, g n (ix2 0 l) = G (128 * n + l.val)) (t : Fin 32) (l : Fin 128) :
    rowMax rs rr g (ix2 t l) = amax (R t) G := by
  have h : rowMax rs rr g (ix2 t l) = Finset.fold max (Ideal.ofBits .f32 0xFF800000#32)
      (fun x : Fin 128 => maxFold rs rr g 64 (ix2 t x)) Finset.univ := by
    have e : ∀ (n : Nat) (x : Fin 128), maxFold rs rr g (n + 1) (ix2 t x)
        = max (maxFold rs rr g n (ix2 t x)) (FloatOps.absf (F := Ideal) (φ := .f32) (rr n (ix2 t x) * rs (ix2 t x) * g n (ix2 0 x))) := by
      intro n x
      pointwise [maxFold, normTile, k0_pay183]
    unfold rowMax
    pointwise [k0_pay100, k0_pay98, k0_pay99]
    exact congrArg (fun f => Finset.fold max _ f Finset.univ) (funext fun x => (e 63 x).symm)
  rw [h, fold_max_sup]
  simp only [maxFold_apply R G rs rr g hrs hrr hg 64 le_rfl]
  exact sup_tiles (fun d => max (nrm (R t) G d) (-nrm (R t) G d)) (fun d => absE_nonneg _)

theorem pay101_apply (hrs : ∀ t l, rs (ix2 t l) = rms (R t)) (hrr : ∀ n < 64, ∀ t l, rr n (ix2 t l) = R t (128 * n + l.val))
    (hg : ∀ n < 64, ∀ l, g n (ix2 0 l) = G (128 * n + l.val)) (t : Fin 32) (l : Fin 128) :
    k0_pay101 (maxFold rs rr g 63) (k0_pay98 rs (rr 63)) (k0_pay99 (g 63)) (ix2 t l) = amax448 (R t) G := by
  have h : k0_pay101 (maxFold rs rr g 63) (k0_pay98 rs (rr 63)) (k0_pay99 (g 63)) (ix2 t l)
      = rowMax rs rr g (ix2 t l) * Ideal.ofBits .f32 0x3B124925#32 := rfl
  rw [h, rowMax_apply R G rs rr g hrs hrr hg]; rfl

/-- One step of the body's search, on vectors. -/
def stepV (a : FVec Ideal S32x128 .f32) (f : IVec S32x128 32) (k : BitVec 32) : IVec S32x128 32 :=
  select (cmpf .oge a (bitcastToFloat .f32 (shli (addi f (broadcast S32x128 k)) (broadcast S32x128 23#32)))) (addi f (broadcast S32x128 k)) f

theorem stepV_apply (a : FVec Ideal S32x128 .f32) (f : IVec S32x128 32) (k : BitVec 32) (i : S32x128.Idx) : stepV a f k i = stepW (a i) (f i) k := rfl

theorem pay102_eq (a1 a2 : FVec Ideal S32x128 .f32) (a3 : FVec Ideal S1x128 .f32) :
    k0_pay102 a1 a2 a3 = stepV (k0_pay101 a1 a2 a3) (stepV (k0_pay101 a1 a2 a3) (stepV (k0_pay101 a1 a2 a3) (broadcast S32x128 0#32) 128#32) 64#32) 32#32 := by
  unfold k0_pay102
  generalize k0_pay101 a1 a2 a3 = w
  rfl

theorem pay105_eq (a1 a2 : FVec Ideal S32x128 .f32) (a3 : FVec Ideal S1x128 .f32) :
    k0_pay105 (k0_pay101 a1 a2 a3) (k0_pay102 a1 a2 a3) (k0_pay103 a1 a2 a3) k0_pay104
      = select (cmpf .oge (k0_pay101 a1 a2 a3) (broadcast S32x128 (pw 253))) (broadcast S32x128 255#32)
        (stepV (k0_pay101 a1 a2 a3) (stepV (k0_pay101 a1 a2 a3) (stepV (k0_pay101 a1 a2 a3) (stepV (k0_pay101 a1 a2 a3)
          (stepV (k0_pay101 a1 a2 a3) (k0_pay102 a1 a2 a3) 16#32) 8#32) 4#32) 2#32) 1#32) := by
  unfold k0_pay103
  generalize k0_pay102 a1 a2 a3 = u
  generalize k0_pay101 a1 a2 a3 = w
  rfl

/-- The exponent field the body searches for, at a lane, from the row maximum over 448 at it. -/
theorem fieldOf_search (t : Fin 32) (l : Fin 128) (v : EReal)
    (hv : k0_pay101 (maxFold rs rr g 63) (k0_pay98 rs (rr 63)) (k0_pay99 (g 63)) (ix2 t l) = v) (h0 : 0 ≤ v) :
    fieldOf rs rr g (ix2 t l) = fieldW v := by
  unfold fieldOf
  rw [pay105_eq, pay102_eq]
  generalize k0_pay101 (maxFold rs rr g 63) (k0_pay98 rs (rr 63)) (k0_pay99 (g 63)) = w at *
  generalize hS : stepV w _ 1#32 = S
  have h : S (ix2 t l) = BitVec.ofNat 32 (search v) := by
    rw [← hS, ← searchW v h0, ← hv]
    simp only [stepV_apply]; rfl
  have h' : select (cmpf .oge w (broadcast S32x128 (pw 253))) (broadcast S32x128 255#32) S (ix2 t l)
      = Scalar.select (FloatOps.cmpf (F := Ideal) (φ := .f32) .oge (w (ix2 t l)) (pw 253)) 255#32 (S (ix2 t l)) := rfl
  rw [h', hv, h, select_oge]; rfl

theorem zeroOf_eq (t : Fin 32) (l : Fin 128) : zeroOf rs rr g (ix2 t l) = IntOp.cmpi .eq (fieldOf rs rr g (ix2 t l)) 0#32 := rfl

theorem scale_inv_apply (hrs : ∀ t l, rs (ix2 t l) = rms (R t)) (hrr : ∀ n < 64, ∀ t l, rr n (ix2 t l) = R t (128 * n + l.val))
    (hg : ∀ n < 64, ∀ l, g n (ix2 0 l) = G (128 * n + l.val)) (t : Fin 32) (l : Fin 128) :
    scaleOf rs rr g (ix2 t l) = rowScale (R t) G ∧ invOf rs rr g (ix2 t l) = inv (amax448 (R t) G) := by
  have hf := fieldOf_search rs rr g t l _ (pay101_apply R G rs rr g hrs hrr hg t l) (amax448_nonneg _ _)
  have hr := rowMax_apply R G rs rr g hrs hrr hg t l
  have h := scaleW (amax (R t) G) (amax448 (R t) G) (amax448_nonneg _ _) (fun e => by unfold amax448; rw [e, zero_mul])
  have es : scaleOf rs rr g (ix2 t l) = Ideal.ofBits .f32 (IntOp.shli .vector (IntOp.addi 127#32
      (expoW (rowMax rs rr g (ix2 t l)) (fieldOf rs rr g (ix2 t l)) (IntOp.cmpi .eq (fieldOf rs rr g (ix2 t l)) 0#32))) 23#32) := by
    unfold scaleOf
    pointwise [k0_pay108, k0_pay107]
    rw [zeroOf_eq]; rfl
  have ei : invOf rs rr g (ix2 t l) = Ideal.ofBits .f32 (IntOp.shli .vector (IntOp.subi 127#32
      (expoW (rowMax rs rr g (ix2 t l)) (fieldOf rs rr g (ix2 t l)) (IntOp.cmpi .eq (fieldOf rs rr g (ix2 t l)) 0#32))) 23#32) := by
    unfold invOf
    pointwise [k0_pay109, k0_pay107]
    rw [zeroOf_eq]; rfl
  rw [es, ei, hf, hr]
  exact h

theorem codeTile_apply (iv : FVec Ideal S32x128 .f32) (hrs : ∀ t l, rs (ix2 t l) = rms (R t)) (hiv : ∀ t l, iv (ix2 t l) = inv (amax448 (R t) G))
    (hrr : ∀ n < 64, ∀ t l, rr n (ix2 t l) = R t (128 * n + l.val))
    (hg : ∀ n < 64, ∀ l, g n (ix2 0 l) = G (128 * n + l.val)) (n : Nat) (hn : n < 64) (t : Fin 32) (l : Fin 128) :
    codeTile rs iv (rr n) (g n) (ix2 t l) = code (R t) G (128 * n + l.val) := by
  pointwise [codeTile, k0_pay185]
  rw [hrs, hrr n hn, hg n hn, hiv]; rfl

end

/-! ## The scale output's block -/

/-- The select of a word equality, on naturals. -/
theorem pay1_apply (i : Nat) (hi : i < 8) (s : FVec Ideal S32x128 .f32) (S : Fin 32 → EReal) (hs : ∀ t l, s (ix2 t l) = S t)
    (old : Vec Ideal S2x128 .f32) (b : Fin 2) (l : Fin 128) :
    k0_pay1 (BitVec.ofNat 32 i) s (Scalar.remsi (BitVec.ofNat 32 i) 4#32) (Scalar.divsi (BitVec.ofNat 32 i) 4#32)
        (iota Kind.tc S32x128 32 [0] iota_S32x128_d0_w32) (iota Kind.tc S32x128 32 [1] iota_S32x128_d1_w32) 32#32 old (ix2 b l)
      = (if i = 0 then 0 else old (ix2 b l)) + if 4 * b.val + l.val / 32 = i then S ⟨l.val % 32, by omega⟩ else 0 := by
  have hd : ∀ k : Fin 8, Scalar.divsi (BitVec.ofNat 32 k.val) 4#32 = BitVec.ofNat 32 (k.val / 4)
      ∧ Scalar.muli (Scalar.remsi (BitVec.ofNat 32 k.val) 4#32) 32#32 = BitVec.ofNat 32 (32 * (k.val % 4)) := by decide +kernel
  obtain ⟨h1, h2⟩ := hd ⟨i, hi⟩
  simp only [] at h1 h2
  pointwise [k0_pay1]
  rw [h1, h2, select_eq]
  have e0 : Scalar.select (Scalar.cmpi CmpIPredicate.eq (BitVec.ofNat 32 i) 0#32) (0 : EReal) (old (ix2 b l)) = if i = 0 then 0 else old (ix2 b l) := by
    refine (select_eq _ _ _ _).trans ?_
    have : BitVec.ofNat 32 i = 0#32 ↔ i = 0 :=
      (by decide +kernel : ∀ k : Fin 8, BitVec.ofNat 32 k.val = 0#32 ↔ k.val = 0) ⟨i, hi⟩
    by_cases h : i = 0
    · rw [if_pos (this.2 h), if_pos h]
    · rw [if_neg (fun e => h (this.1 e)), if_neg h]
  rw [e0]
  congr 1
  have eb : BitVec.ofNat 32 b.val = BitVec.ofNat 32 (i / 4) ↔ b.val = i / 4 :=
    (by decide +kernel : ∀ (b : Fin 2) (k : Fin 2), BitVec.ofNat 32 b.val = BitVec.ofNat 32 k.val ↔ b.val = k.val) b ⟨i / 4, by omega⟩
  have hrow : ∀ x : Fin 32, Scalar.select (IntOp.cmpi .eq (BitVec.ofNat 32 l.val) (IntOp.addi (BitVec.ofNat 32 x.val) (BitVec.ofNat 32 (32 * (i % 4))))) (s (ix2 x l)) (0 : EReal)
      = if l.val = x.val + 32 * (i % 4) then S x else 0 := by
    intro x
    rw [select_eq, hs]
    have := band_iff x l (i % 4) (by omega)
    by_cases h : l.val = x.val + 32 * (i % 4)
    · rw [if_pos (this.2 h), if_pos h]
    · rw [if_neg (fun e => h (this.1 e)), if_neg h]
  simp only [hrow]
  by_cases hb : b.val = i / 4
  · rw [if_pos (eb.2 hb)]
    by_cases hl : l.val / 32 = i % 4
    · rw [if_pos (by omega), Finset.sum_eq_single (⟨l.val % 32, by omega⟩ : Fin 32)]
      · rw [if_pos (by show l.val = l.val % 32 + _; omega)]
      · intro x _ hx
        rw [if_neg]
        intro e; apply hx; apply Fin.ext; show x.val = l.val % 32; have := x.isLt; omega
      · intro h; exact absurd (Finset.mem_univ _) h
    · rw [if_neg (by omega)]
      refine Finset.sum_eq_zero fun x _ => ?_
      rw [if_neg]; have := x.isLt; omega
  · rw [if_neg (fun e => hb (eb.1 e)), if_neg (by omega)]

/-! ## The residual chunk: one product with the scaling matrix -/

theorem chunks_apply (v4 : Vec Ideal S1x32x256 .bf16) (A : Fin 32 → Fin 8 → EReal)
    (hv : ∀ (t : Fin 32) (k : Fin 256), v4 (ix3 (0 : Fin 1) t k) = if k.val % 32 = t.val then A t ⟨k.val / 32, by omega⟩ else 0)
    (x1 : Vec Ideal S1x8192 .f32) (x3 : Vec Ideal S8x32x8192 .fp8e4m3) (x4 : Vec Ideal S32x8192 .bf16)
    (n : Nat) (hn : n < 8) (t : Fin 32) (l : Fin 1024) :
    chunks v4 x1 x3 x4 n (ix2 t l)
      = (∑ s : Fin 8, x3 (ix3 s t ⟨1024 * n + l.val, by omega⟩) * A t s) + x1 (ix2 0 ⟨1024 * n + l.val, by omega⟩) + x4 (ix2 t ⟨1024 * n + l.val, by omega⟩) := by
  have hd : ∀ h, (⟨1024 * (n % 8) + l.val, h⟩ : Fin 8192) = ⟨1024 * n + l.val, by omega⟩ := fun h => Fin.ext (by show 1024 * (n % 8) + l.val = _; rw [Nat.mod_eq_of_lt hn])
  pointwise [chunks, k0_pay50, k0_pay45]
  simp only [hd]
  congr 2
  rw [← (finProdFinEquiv (m := 8) (n := 32)).sum_comp, Fintype.sum_prod_type]
  refine Finset.sum_congr rfl fun s _ => ?_
  rw [Finset.sum_eq_single t]
  · rw [hv]
    have e1 : (finProdFinEquiv (s, t)).val = t.val + 32 * s.val := rfl
    have et := t.isLt
    rw [if_pos (by rw [e1]; omega), mul_comm]
    congr 2
    · congr 1
      · apply Fin.ext; show (finProdFinEquiv (s, t)).val / 32 = s.val; rw [e1]; omega
      · apply Fin.ext; show (finProdFinEquiv (s, t)).val % 32 = t.val; rw [e1]; omega
    · apply Fin.ext; show (finProdFinEquiv (s, t)).val / 32 = s.val; rw [e1]; omega
  · intro u _ hu
    rw [hv, if_neg, zero_mul]
    have e1 : (finProdFinEquiv (s, u)).val = u.val + 32 * s.val := rfl
    have eu := u.isLt
    rw [e1]; intro e; apply hu; apply Fin.ext; omega
  · intro h; exact absurd (Finset.mem_univ _) h

end Cert.KernelIdeal.Hand

end
-- ==== Proof.KTile.lean ====
module

public import proofs.«01_k».proof.Proof.KStep
public import proofs.«01_k».proof.Proof.KSem

@[expose] public section

/-! What one run of the body leaves, over the reals: from the scaling matrix and the blocks, the residual rows, the codes and the scales of the
    specification. -/

set_option maxRecDepth 16384

noncomputable section

namespace Cert.KernelIdeal.Hand

open Cert.KernelIdeal.Gen
open Idealize.ShloMosaic Idealize.ShloMosaic.TcCoe Idealize.ShloMosaic.Tactic
open Cert.Spec
open scoped BigOperators

/-! ## The scaling matrices -/

/-- Entry `(k, t, s)` of the scratch: the scale of shard `s / 32` at row `t` of tile `k`, on the diagonal `s % 32 = t`; zero elsewhere. -/
theorem scr_apply (x0 : Vec Ideal S16x128 .f32) (k : Fin 8) (t : Fin 32) (s : Fin 256) :
    scr x0 (ix3 k t s) = if s.val % 32 = t.val then x0 (ix2 ⟨2 * (s.val / 32) + k.val / 4, by omega⟩ ⟨t.val + 32 * (k.val % 4), by omega⟩) else 0 := by
  unfold scr
  refine (View.canon_apply_of_pieces (Val := Elt Ideal) (e := .bf16) (fun y => if (y 2).val % 32 = (y 1).val then
    x0 (ix2 ⟨2 * ((y 2).val / 32) + (y 0).val / 4, by have h0 : (y 0).val < 8 := (y 0).isLt; have h2 : (y 2).val < 256 := (y 2).isLt; omega⟩
      ⟨((y 1).val + 32 * ((y 0).val % 4)) % 128, Nat.mod_lt _ (by decide)⟩) else 0) _ (fun p hp x => ?_) (ix3 k t s) (coverS _ _)).trans ?_
  · obtain ⟨n, hn, rfl⟩ := of_mem_piecesS _ _ p hp
    obtain ⟨q, t, s, rfl⟩ : ∃ (q : Fin 1) (t : Fin 32) (s : Fin 256), x = ix3 q t s := ⟨x 0, x 1, x 2, by funext a; fin_cases a <;> rfl⟩
    obtain rfl : q = 0 := Subsingleton.elim _ _
    have e0 : ((rectS n).emb (ix3 (0 : Fin 1) t s) 0).val = n := by
      refine (Rect.idx_unit_val _ _ _ _ _).trans ?_; show n % 8 + 0 = n; omega
    have e1 : ((rectS n).emb (ix3 (0 : Fin 1) t s) 1).val = t.val := by
      refine (Rect.idx_unit_val _ _ _ _ _).trans ?_; show 0 + t.val = t.val; omega
    have e2 : ((rectS n).emb (ix3 (0 : Fin 1) t s) 2).val = s.val := by
      refine (Rect.idx_unit_val _ _ _ _ _).trans ?_; show 0 + s.val = s.val; omega
    simp only [e0, e1, e2]
    refine (scMat_apply _ (n % 4) (by omega) t s).trans ?_
    congr 1
    pointwise
    congr 1
    funext a
    apply Fin.ext
    fin_cases a
    · show n / 4 % 2 + 2 * (s.val / 32) = 2 * (s.val / 32) + n / 4; omega
    · show t.val + 32 * (n % 4) = (t.val + 32 * (n % 4)) % 128; omega
  · show (if s.val % 32 = t.val then _ else _) = _
    congr 2
    funext a
    fin_cases a
    · rfl
    · apply Fin.ext; show (t.val + 32 * (k.val % 4)) % 128 = t.val + 32 * (k.val % 4); omega

/-- The matrix of the point at `i` is entry `i` of the scratch. -/
theorem matOf_apply (i : grid0.Coords) (S : Vec Ideal S8x32x256 .bf16) (k : Fin 8) (hk : (i 0).val = k.val) (t : Fin 32) (s : Fin 256) :
    matOf i S (ix3 (0 : Fin 1) t s) = S (ix3 k t s) := by
  refine View.ld_unit_apply_of (Val := Elt Ideal) (e := .bf16) S (k0_off1 i) S1x32x256.size (k0_off1_inb i) _ _ fun a => ?_
  have e : k0_off1 i a = (![(i 0).val, 0, 0] : Fin 3 → Nat) a := congrFun (k0_off1_eq i) a
  refine Eq.trans ?_ (congrArg (· + ((ix3 (0 : Fin 1) t s : S1x32x256.Idx) a).val) e.symm)
  fin_cases a
  · show k.val = (i 0).val + 0; omega
  · show t.val = 0 + t.val; omega
  · show s.val = 0 + s.val; omega

/-! ## The rows -/

section
variable (v4 : Vec Ideal S1x32x256 .bf16) (x1 x2 : Vec Ideal S1x8192 .f32) (x3 : Vec Ideal S8x32x8192 .fp8e4m3) (x4 : Vec Ideal S32x8192 .bf16)
variable (R : Fin 32 → Nat → EReal) (G : Nat → EReal)

/-- The residual's columns from its chunks. -/
theorem resOf_apply (hch : ∀ n < 8, ∀ t l, chunks v4 x1 x3 x4 n (ix2 t l) = R t (1024 * n + l.val)) (t : Fin 32) (d : Fin 8192) :
    resOf v4 x1 x3 x4 (ix2 t d) = R t d.val := by
  unfold resOf
  refine View.canon_apply_of_pieces (Val := Elt Ideal) (e := .bf16) (fun y => R (y 0) (y 1).val) _ (fun p hp x => ?_) (ix2 t d) (cover5 _ _)
  obtain ⟨n, hn, rfl⟩ := of_mem_pieces5 _ _ p hp
  obtain ⟨t, l, rfl⟩ : ∃ (t : Fin 32) (l : Fin 1024), x = ix2 t l := ⟨x 0, x 1, by funext a; fin_cases a <;> rfl⟩
  have e0 : (rectX n).emb (ix2 t l) 0 = t := by
    apply Fin.ext; refine (Rect.idx_unit_val _ _ _ _ _).trans ?_; show 0 + t.val = t.val; omega
  have e1 : ((rectX n).emb (ix2 t l) 1).val = 1024 * n + l.val := by
    refine (Rect.idx_unit_val _ _ _ _ _).trans ?_; show 1024 * (n % 8) + l.val = _; omega
  simp only [e0, e1]
  exact hch n hn t l

theorem back_apply (hch : ∀ n < 8, ∀ t l, chunks v4 x1 x3 x4 n (ix2 t l) = R t (1024 * n + l.val)) (n : Nat) (hn : n < 64) (t : Fin 32) (l : Fin 128) :
    back v4 x1 x3 x4 n (ix2 t l) = R t (128 * n + l.val) := by
  refine (View.ld_unit_apply_of (Val := Elt Ideal) (e := .bf16) (resOf v4 x1 x3 x4) _ _ _ (ix2 t l) (ix2 t ⟨128 * n + l.val, by omega⟩) fun a => ?_).trans
    (resOf_apply v4 x1 x3 x4 R hch t _)
  fin_cases a
  · show t.val = 0 + t.val; omega
  · show 128 * n + l.val = 128 * (n % 64) + l.val; omega

theorem gains_apply (hG : ∀ d : Fin 8192, x2 (ix2 0 d) = G d.val) (n : Nat) (hn : n < 64) (l : Fin 128) : gains x2 n (ix2 0 l) = G (128 * n + l.val) := by
  refine (View.ld_unit_apply_of (Val := Elt Ideal) (e := .f32) x2 _ _ _ (ix2 0 l) (ix2 0 ⟨128 * n + l.val, by omega⟩) fun a => ?_).trans (hG _)
  fin_cases a
  · rfl
  · show 128 * n + l.val = 128 * (n % 64) + l.val; omega

theorem scl_iv_apply (hch : ∀ n < 8, ∀ t l, chunks v4 x1 x3 x4 n (ix2 t l) = R t (1024 * n + l.val)) (hG : ∀ d : Fin 8192, x2 (ix2 0 d) = G d.val)
    (t : Fin 32) (l : Fin 128) :
    sclOf v4 x1 x2 x3 x4 (ix2 t l) = rowScale (R t) G ∧ ivOf v4 x1 x2 x3 x4 (ix2 t l) = inv (amax448 (R t) G) :=
  scale_inv_apply R G _ _ _ (rs_apply R _ hch) (fun n hn => back_apply v4 x1 x3 x4 R hch n hn) (fun n hn => gains_apply x2 G hG n hn) t l

/-- The codes' columns. -/
theorem codOf_apply (hch : ∀ n < 8, ∀ t l, chunks v4 x1 x3 x4 n (ix2 t l) = R t (1024 * n + l.val)) (hG : ∀ d : Fin 8192, x2 (ix2 0 d) = G d.val)
    (t : Fin 32) (d : Fin 8192) :
    codOf v4 x1 x2 x3 x4 (ix2 t d) = code (R t) G d.val := by
  unfold codOf
  refine View.canon_apply_of_pieces (Val := Elt Ideal) (e := .fp8e4m3) (fun y => code (R (y 0)) G (y 1).val) _ (fun p hp x => ?_) (ix2 t d) (cover6 _ _)
  obtain ⟨n, hn, rfl⟩ := of_mem_pieces6 _ _ p hp
  obtain ⟨t, l, rfl⟩ : ∃ (t : Fin 32) (l : Fin 128), x = ix2 t l := ⟨x 0, x 1, by funext a; fin_cases a <;> rfl⟩
  have e0 : (rectC n).emb (ix2 t l) 0 = t := by
    apply Fin.ext; refine (Rect.idx_unit_val _ _ _ _ _).trans ?_; show 0 + t.val = t.val; omega
  have e1 : ((rectC n).emb (ix2 t l) 1).val = 128 * n + l.val := by
    refine (Rect.idx_unit_val _ _ _ _ _).trans ?_; show 128 * (n % 64) + l.val = _; omega
  simp only [e0, e1]
  exact codeTile_apply R G _ _ _ _ (rs_apply R _ hch) (fun t l => (scl_iv_apply v4 x1 x2 x3 x4 R G hch hG t l).2)
    (fun n hn => back_apply v4 x1 x3 x4 R hch n hn) (fun n hn => gains_apply x2 G hG n hn) n hn t l

end

/-! ## The scale output -/

theorem accOf_apply (i : grid0.Coords) (s : FVec Ideal S32x128 .f32) (S : Fin 32 → EReal) (hs : ∀ t l, s (ix2 t l) = S t)
    (old : Vec Ideal S2x128 .f32) (b : Fin 2) (l : Fin 128) :
    accOf i s old (ix2 b l)
      = (if (i 0).val = 0 then 0 else old (ix2 b l)) + if 4 * b.val + l.val / 32 = (i 0).val then S ⟨l.val % 32, by omega⟩ else 0 :=
  pay1_apply (i 0).val (i 0).isLt s S hs old b l

end Cert.KernelIdeal.Hand

end
-- ==== Proof.KGoal.lean ====
module

public import proofs.«01_k».proof.Proof.KSpec

@[expose] public section

/-! The specification of the three results, on whole arrays: entries of the arguments by their coordinates. -/

noncomputable section

namespace Cert.Spec

open scoped BigOperators

variable (P : Fin 8 → Fin 2 → Fin 128 → Fin 8192 → EReal) (S : Fin 8 → Fin 2 → Fin 128 → EReal) (B : Fin 8192 → EReal)
  (X : Fin 2 → Fin 128 → Fin 8192 → EReal) (G : Fin 8192 → EReal)

/-- The new residual at token `(b, t)`: the scaled partials summed over the shards, plus the bias, plus the old residual. -/
def rowN (b : Fin 2) (t : Fin 128) (d : Nat) : EReal :=
  (∑ s : Fin 8, P s b t ⟨d % 8192, Nat.mod_lt _ (by decide)⟩ * S s b t) + B ⟨d % 8192, Nat.mod_lt _ (by decide)⟩ + X b t ⟨d % 8192, Nat.mod_lt _ (by decide)⟩
/-- The gain by column. -/
def gainN (d : Nat) : EReal := G ⟨d % 8192, Nat.mod_lt _ (by decide)⟩

/-- The batch and the position of a flat row. -/
def batchOf (r : Fin 256) : Fin 2 := ⟨r.val / 128, by omega⟩
def posOf (r : Fin 256) : Fin 128 := ⟨r.val % 128, by omega⟩

/-- The three results. -/
def outR (r : Fin 256) (d : Fin 8192) : EReal := rowN P S B X (batchOf r) (posOf r) d.val
def outQ (r : Fin 256) (d : Fin 8192) : EReal := code (rowN P S B X (batchOf r) (posOf r)) (gainN G) d.val
def outS (b : Fin 2) (t : Fin 128) : EReal := rowScale (rowN P S B X b t) (gainN G)

end Cert.Spec

end
-- ==== Proof.KValue.lean ====
module

public import proofs.«01_k».proof.Proof.KFrame
public import proofs.«01_k».proof.Proof.KTile
public import proofs.«01_k».proof.Proof.KGoal
public import Idealize.ShloMosaic.Lib.Pipeline.Value

@[expose] public section

/-! The kernel's three arrays after the run, over the reals: the specification of the arguments. -/

set_option maxRecDepth 16384

noncomputable section

namespace Cert.KernelIdeal.Hand

open Cert.KernelIdeal.Gen
open Idealize.ShloMosaic Idealize.ShloMosaic.TcCoe Idealize.ShloMosaic.Tactic Idealize.SL.Sem
open Idealize.ShloMosaic.Pipeline (Dat)
open Cert.Spec
open scoped BigOperators

variable (m : (ℓ : Loc nD τ sig) → Buf (Elt Ideal) ℓ) (ρ : Dev nD → PrngReg)

/-! ## Reshapes read at an index -/

theorem cast0_apply (x : Vec Ideal S8x2x128 .f32) (s : Fin 16) (l : Fin 128) :
    shapeCast S16x128 x shapeCasts_S8x2x128_S16x128 (ix2 s l) = x (ix3 ⟨s.val / 2, by omega⟩ ⟨s.val % 2, by omega⟩ l) := by
  pointwise
theorem cast1_apply (x : Vec Ideal S8192 .f32) (d : Fin 8192) :
    shapeCast S1x8192 x shapeCasts_S8192_S1x8192 (ix2 (0 : Fin 1) d) = x (ix1 d) := by
  pointwise
theorem cast3_apply (x : Vec Ideal S8x2x128x8192 .fp8e4m3) (s : Fin 8) (r : Fin 256) (d : Fin 8192) :
    shapeCast S8x256x8192 x shapeCasts_S8x2x128x8192_S8x256x8192 (ix3 s r d) = x (ix4 s (batchOf r) (posOf r) d) := by
  pointwise
  rfl
theorem cast4_apply (x : Vec Ideal S2x128x8192 .bf16) (r : Fin 256) (d : Fin 8192) :
    shapeCast S256x8192 x shapeCasts_S2x128x8192_S256x8192 (ix2 r d) = x (ix3 (batchOf r) (posOf r) d) := by
  pointwise
  rfl

/-! ## The arguments, and the arrays the region finds -/

/-- The arguments' entries. -/
def aP (c : Dev nD) (s : Fin 8) (b : Fin 2) (t : Fin 128) (d : Fin 8192) : EReal := (m ((c : Thread nD τ).loc main_arg0) : Vec Ideal S8x2x128x8192 .fp8e4m3) (ix4 s b t d)
def aS (c : Dev nD) (s : Fin 8) (b : Fin 2) (t : Fin 128) : EReal := (m ((c : Thread nD τ).loc main_arg1) : Vec Ideal S8x2x128 .f32) (ix3 s b t)
def aB (c : Dev nD) (d : Fin 8192) : EReal := (m ((c : Thread nD τ).loc main_arg2) : Vec Ideal S8192 .f32) (ix1 d)
def aX (c : Dev nD) (b : Fin 2) (t : Fin 128) (d : Fin 8192) : EReal := (m ((c : Thread nD τ).loc main_arg3) : Vec Ideal S2x128x8192 .bf16) (ix3 b t d)
def aG (c : Dev nD) (d : Fin 8192) : EReal := (m ((c : Thread nD τ).loc main_arg4) : Vec Ideal S8192 .f32) (ix1 d)

/-- The region finds the arguments reshaped. -/
theorem V_main_v0 (c : Dev nD) : V m c main_v0 = shapeCast S16x128 (m ((c : Thread nD τ).loc main_arg1) : Vec Ideal S8x2x128 .f32) shapeCasts_S8x2x128_S16x128 := by
  unfold_abbrev_sides
  after_results
  rfl
theorem V_main_v1 (c : Dev nD) : V m c main_v1 = shapeCast S1x8192 (m ((c : Thread nD τ).loc main_arg2) : Vec Ideal S8192 .f32) shapeCasts_S8192_S1x8192 := by
  unfold_abbrev_sides
  after_results
  rfl
theorem V_main_v2 (c : Dev nD) : V m c main_v2 = shapeCast S1x8192 (m ((c : Thread nD τ).loc main_arg4) : Vec Ideal S8192 .f32) shapeCasts_S8192_S1x8192 := by
  unfold_abbrev_sides
  after_results
  rfl
theorem V_main_v3 (c : Dev nD) : V m c main_v3 = shapeCast S8x256x8192 (m ((c : Thread nD τ).loc main_arg0) : Vec Ideal S8x2x128x8192 .fp8e4m3) shapeCasts_S8x2x128x8192_S8x256x8192 := by
  unfold_abbrev_sides
  after_results
  rfl
theorem V_main_v4 (c : Dev nD) : V m c main_v4 = shapeCast S256x8192 (m ((c : Thread nD τ).loc main_arg3) : Vec Ideal S2x128x8192 .bf16) shapeCasts_S2x128x8192_S256x8192 := by
  unfold_abbrev_sides
  after_results
  rfl

/-- Which block of each input a point is handed (decided over the eight points). -/
theorem idx_in : ∀ t : Fin cfg0.N, (win0_0.index t (0 : Fin 2) = 0 ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) :=
  (by decide +kernel : ∀ t : Fin grid0.N, _)

/-- The flat row of row `r` of point `t`. -/
def flat (t : Fin cfg0.N) (r : Fin 32) : Fin 256 := ⟨32 * t.val + r.val, by have : t.val < 8 := lt_of_lt_of_eq t.isLt N_0; omega⟩

theorem iblk0_apply (c : Dev nD) (t : Fin cfg0.N) (s : Fin 16) (l : Fin 128) :
    iblk m c 0 t (ix2 s l) = aS m c ⟨s.val / 2, by omega⟩ ⟨s.val % 2, by omega⟩ l := by
  have e : iblk m c 0 t (ix2 s l) = V m c main_v0 (ix2 s l) := by
    show V m c main_v0 (((cfg0.win 0).blk t).view.emb (ix2 s l)) = _
    congr 1
    funext a
    apply Fin.ext
    obtain ⟨⟨h0, h1⟩, -⟩ := idx_in t
    fin_cases a
    · show win0_0.index t (0 : Fin 2) * 16 + 1 * s.val = s.val; omega
    · show win0_0.index t (1 : Fin 2) * 128 + 1 * l.val = l.val; omega
  rw [e, V_main_v0]
  exact cast0_apply _ s l
theorem iblk1_apply (c : Dev nD) (t : Fin cfg0.N) (d : Fin 8192) : iblk m c 1 t (ix2 (0 : Fin 1) d) = aB m c d := by
  have e : iblk m c 1 t (ix2 (0 : Fin 1) d) = V m c main_v1 (ix2 (0 : Fin 1) d) := by
    show V m c main_v1 (((cfg0.win 1).blk t).view.emb (ix2 (0 : Fin 1) d)) = _
    congr 1
    funext a
    apply Fin.ext
    obtain ⟨-, ⟨h0, h1⟩, -⟩ := idx_in t
    fin_cases a
    · show win0_1.index t (0 : Fin 2) * 1 + 1 * 0 = 0; omega
    · show win0_1.index t (1 : Fin 2) * 8192 + 1 * d.val = d.val; omega
  rw [e, V_main_v1]
  exact cast1_apply _ d
theorem iblk2_apply (c : Dev nD) (t : Fin cfg0.N) (d : Fin 8192) : iblk m c 2 t (ix2 (0 : Fin 1) d) = aG m c d := by
  have e : iblk m c 2 t (ix2 (0 : Fin 1) d) = V m c main_v2 (ix2 (0 : Fin 1) d) := by
    show V m c main_v2 (((cfg0.win 2).blk t).view.emb (ix2 (0 : Fin 1) d)) = _
    congr 1
    funext a
    apply Fin.ext
    obtain ⟨-, -, ⟨h0, h1⟩, -⟩ := idx_in t
    fin_cases a
    · show win0_2.index t (0 : Fin 2) * 1 + 1 * 0 = 0; omega
    · show win0_2.index t (1 : Fin 2) * 8192 + 1 * d.val = d.val; omega
  rw [e, V_main_v2]
  exact cast1_apply _ d
theorem iblk3_apply (c : Dev nD) (t : Fin cfg0.N) (s : Fin 8) (r : Fin 32) (d : Fin 8192) :
    iblk m c 3 t (ix3 s r d) = aP m c s (batchOf (flat t r)) (posOf (flat t r)) d := by
  have e : iblk m c 3 t (ix3 s r d) = V m c main_v3 (ix3 s (flat t r) d) := by
    show V m c main_v3 (((cfg0.win 3).blk t).view.emb (ix3 s r d)) = _
    congr 1
    funext a
    apply Fin.ext
    obtain ⟨-, -, -, ⟨h0, h1, h2⟩, -⟩ := idx_in t
    fin_cases a
    · show win0_3.index t (0 : Fin 3) * 8 + 1 * s.val = s.val; omega
    · show win0_3.index t (1 : Fin 3) * 32 + 1 * r.val = 32 * t.val + r.val; omega
    · show win0_3.index t (2 : Fin 3) * 8192 + 1 * d.val = d.val; omega
  rw [e, V_main_v3]
  exact cast3_apply _ s (flat t r) d
theorem iblk4_apply (c : Dev nD) (t : Fin cfg0.N) (r : Fin 32) (d : Fin 8192) :
    iblk m c 4 t (ix2 r d) = aX m c (batchOf (flat t r)) (posOf (flat t r)) d := by
  have e : iblk m c 4 t (ix2 r d) = V m c main_v4 (ix2 (flat t r) d) := by
    show V m c main_v4 (((cfg0.win 4).blk t).view.emb (ix2 r d)) = _
    congr 1
    funext a
    apply Fin.ext
    obtain ⟨-, -, -, -, ⟨h0, h1⟩⟩ := idx_in t
    fin_cases a
    · show win0_4.index t (0 : Fin 2) * 32 + 1 * r.val = 32 * t.val + r.val; omega
    · show win0_4.index t (1 : Fin 2) * 8192 + 1 * d.val = d.val; omega
  rw [e, V_main_v4]
  exact cast4_apply _ (flat t r) d

/-! ## What each point leaves -/

/-- The row function of row `r` of point `t`, and the gain by column. -/
abbrev rowAt (c : Dev nD) (t : Fin cfg0.N) (r : Fin 32) : Nat → EReal :=
  rowN (aP m c) (aS m c) (aB m c) (aX m c) (batchOf (flat t r)) (posOf (flat t r))
abbrev gnAt (c : Dev nD) : Nat → EReal := gainN (aG m c)

/-- The scaling matrix of a point: the scales of its rows, by shard, on the diagonals. -/
theorem matAt_apply (c : Dev nD) (t : Fin cfg0.N) (r : Fin 32) (k : Fin 256) :
    matAt m c t (ix3 (0 : Fin 1) r k)
      = if k.val % 32 = r.val then aS m c ⟨k.val / 32, by omega⟩ (batchOf (flat t r)) (posOf (flat t r)) else 0 := by
  have ht : t.val < 8 := lt_of_lt_of_eq t.isLt N_0
  unfold matAt scrAt
  rw [matOf_apply _ _ ⟨t.val, ht⟩ (coords0 t), scr_apply]
  congr 1
  rw [iblk0_apply]
  congr 1
  · apply Fin.ext; show (2 * (k.val / 32) + t.val / 4) / 2 = k.val / 32; omega
  · apply Fin.ext; show (2 * (k.val / 32) + t.val / 4) % 2 = (32 * t.val + r.val) / 128; omega
  · apply Fin.ext; show r.val + 32 * (t.val % 4) = (32 * t.val + r.val) % 128; omega

theorem chunksAt_apply (c : Dev nD) (t : Fin cfg0.N) (n : Nat) (hn : n < 8) (r : Fin 32) (l : Fin 1024) :
    chunks (matAt m c t) (iblk m c 1 t) (iblk m c 3 t) (iblk m c 4 t) n (ix2 r l) = rowAt m c t r (1024 * n + l.val) := by
  rw [chunks_apply _ (fun r s => aS m c s (batchOf (flat t r)) (posOf (flat t r))) (matAt_apply m c t) _ _ _ n hn]
  have hd : (⟨1024 * n + l.val, by omega⟩ : Fin 8192) = ⟨(1024 * n + l.val) % 8192, Nat.mod_lt _ (by decide)⟩ :=
    Fin.ext (Nat.mod_eq_of_lt (by omega)).symm
  rw [iblk1_apply, iblk4_apply]
  simp only [iblk3_apply]
  rw [hd]
  rfl

theorem gainAt_apply (c : Dev nD) (t : Fin cfg0.N) (d : Fin 8192) : iblk m c 2 t (ix2 (0 : Fin 1) d) = gnAt m c d.val := by
  rw [iblk2_apply]
  exact congrArg (aG m c) (Fin.ext (Nat.mod_eq_of_lt d.isLt).symm)

theorem resAt_apply (c : Dev nD) (t : Fin cfg0.N) (r : Fin 32) (d : Fin 8192) : resAt m c t (ix2 r d) = rowAt m c t r d.val :=
  resOf_apply _ _ _ _ (rowAt m c t) (chunksAt_apply m c t) r d
theorem codAt_apply (c : Dev nD) (t : Fin cfg0.N) (r : Fin 32) (d : Fin 8192) : codAt m c t (ix2 r d) = code (rowAt m c t r) (gnAt m c) d.val :=
  codOf_apply _ _ _ _ _ (rowAt m c t) (gnAt m c) (chunksAt_apply m c t) (gainAt_apply m c t) r d
theorem sclAt_apply (c : Dev nD) (t : Fin cfg0.N) (r : Fin 32) (l : Fin 128) : sclAt m c t (ix2 r l) = rowScale (rowAt m c t r) (gnAt m c) :=
  (scl_iv_apply _ _ _ _ _ (rowAt m c t) (gnAt m c) (chunksAt_apply m c t) (gainAt_apply m c t) r l).1

/-- The tile that holds entry `(b, l)` of the scale output leaves that entry's scale there. -/
theorem sclAt_hit (c : Dev nD) (b : Fin 2) (l : Fin 128) (n : ℕ) (hn : n < cfg0.N) (h : 4 * b.val + l.val / 32 = n) :
    rowScale (rowAt m c ⟨n, hn⟩ ⟨l.val % 32, by omega⟩) (gnAt m c) = outS (aP m c) (aS m c) (aB m c) (aX m c) (aG m c) b l := by
  have eb : batchOf (flat ⟨n, hn⟩ ⟨l.val % 32, by omega⟩) = b := Fin.ext (by show (32 * n + l.val % 32) / 128 = b.val; omega)
  have el : posOf (flat ⟨n, hn⟩ ⟨l.val % 32, by omega⟩) = l := Fin.ext (by show (32 * n + l.val % 32) % 128 = l.val; omega)
  unfold rowAt outS
  rw [eb, el]

/-- After point `n` the scale output holds the scales of the tiles up to `n`, and zero elsewhere. -/
theorem accAt_apply (c : Dev nD) (n : ℕ) (hn : n < cfg0.N) (b : Fin 2) (l : Fin 128) :
    accAt m c n hn (ix2 b l) = if 4 * b.val + l.val / 32 ≤ n then outS (aP m c) (aS m c) (aB m c) (aX m c) (aG m c) b l else 0 := by
  induction n with
  | zero =>
    unfold accAt
    rw [accOf_apply _ _ _ (sclAt_apply m c ⟨0, hn⟩), coords0]
    show (if 0 = 0 then (0 : EReal) else _) + (if 4 * b.val + l.val / 32 = 0 then _ else 0) = _
    rw [if_pos rfl, zero_add]
    by_cases h : 4 * b.val + l.val / 32 = 0
    · rw [if_pos h, if_pos (by omega), sclAt_hit m c b l 0 hn h]
    · rw [if_neg h, if_neg (by omega)]
  | succ n ih =>
    unfold accAt
    rw [accOf_apply _ _ _ (sclAt_apply m c ⟨n + 1, hn⟩), coords0]
    show (if n + 1 = 0 then (0 : EReal) else _) + (if 4 * b.val + l.val / 32 = n + 1 then _ else 0) = _
    rw [if_neg (Nat.succ_ne_zero n), ih]
    by_cases h : 4 * b.val + l.val / 32 = n + 1
    · rw [if_pos h, if_neg (by omega), if_pos (by omega), zero_add, sclAt_hit m c b l (n + 1) hn h]
    · rw [if_neg h, add_zero]
      by_cases h' : 4 * b.val + l.val / 32 ≤ n
      · rw [if_pos h', if_pos (by omega)]
      · rw [if_neg h', if_neg (by omega)]

/-! ## The arrays after the run -/

/-- What the three arrays hold. -/
def G5 (c : Dev nD) : Buf (Elt Ideal) ((c : Thread nD τ).loc main_v5_0) := fun i : S256x8192.Idx => outR (aP m c) (aS m c) (aB m c) (aX m c) (i 0) (i 1)
def G6 (c : Dev nD) : Buf (Elt Ideal) ((c : Thread nD τ).loc main_v5_1) := fun i : S256x8192.Idx => outQ (aP m c) (aS m c) (aB m c) (aX m c) (aG m c) (i 0) (i 1)
def G7 (c : Dev nD) : Buf (Elt Ideal) ((c : Thread nD τ).loc main_v5_2) := fun i : S2x128.Idx => outS (aP m c) (aS m c) (aB m c) (aX m c) (aG m c) (i 0) (i 1)

/-- Which block of each output a point writes, and when (decided over the eight points). -/
theorem idx_out : ∀ t : Fin cfg0.N, (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = 0 ∧ win0_7.index t (1 : Fin 2) = 0 ∧ (win0_7.flush t = true ↔ t.val = 7)) :=
  (by decide +kernel : ∀ t : Fin grid0.N, _)

theorem flushed5_eq (c : Dev nD) (t : Fin cfg0.N) : (dats m 0 c).flushed 5 t = ((cfg0.win 5).blk t).view.read (Elt Ideal) (G5 m c) := by
  show (cfg0.win 5).cut (grid0.coords t) ((dats m 0 c).after 5 t) = _
  rw [after0_5]
  funext y
  show resAt m c t y = G5 m c (((cfg0.win 5).blk t).view.emb y)
  obtain ⟨r, d, rfl⟩ : ∃ (r : Fin 32) (d : Fin 8192), y = ix2 r d := ⟨y 0, y 1, by funext a; fin_cases a <;> rfl⟩
  refine (resAt_apply m c t r d).trans ?_
  obtain ⟨⟨h0, h1, -⟩, -⟩ := idx_out t
  have e0 : (((cfg0.win 5).blk t).view.emb (ix2 r d) : S256x8192.Idx) 0 = flat t r :=
    Fin.ext (by show win0_5.index t (0 : Fin 2) * 32 + 1 * r.val = 32 * t.val + r.val; omega)
  have e1 : (((cfg0.win 5).blk t).view.emb (ix2 r d) : S256x8192.Idx) 1 = d :=
    Fin.ext (by show win0_5.index t (1 : Fin 2) * 8192 + 1 * d.val = d.val; omega)
  show _ = outR (aP m c) (aS m c) (aB m c) (aX m c) ((((cfg0.win 5).blk t).view.emb (ix2 r d) : S256x8192.Idx) 0) ((((cfg0.win 5).blk t).view.emb (ix2 r d) : S256x8192.Idx) 1)
  rw [e0, e1]
  rfl

theorem flushed6_eq (c : Dev nD) (t : Fin cfg0.N) : (dats m 0 c).flushed 6 t = ((cfg0.win 6).blk t).view.read (Elt Ideal) (G6 m c) := by
  show (cfg0.win 6).cut (grid0.coords t) ((dats m 0 c).after 6 t) = _
  rw [after0_6]
  funext y
  show codAt m c t y = G6 m c (((cfg0.win 6).blk t).view.emb y)
  obtain ⟨r, d, rfl⟩ : ∃ (r : Fin 32) (d : Fin 8192), y = ix2 r d := ⟨y 0, y 1, by funext a; fin_cases a <;> rfl⟩
  refine (codAt_apply m c t r d).trans ?_
  obtain ⟨-, ⟨h0, h1, -⟩, -⟩ := idx_out t
  have e0 : (((cfg0.win 6).blk t).view.emb (ix2 r d) : S256x8192.Idx) 0 = flat t r :=
    Fin.ext (by show win0_6.index t (0 : Fin 2) * 32 + 1 * r.val = 32 * t.val + r.val; omega)
  have e1 : (((cfg0.win 6).blk t).view.emb (ix2 r d) : S256x8192.Idx) 1 = d :=
    Fin.ext (by show win0_6.index t (1 : Fin 2) * 8192 + 1 * d.val = d.val; omega)
  show _ = outQ (aP m c) (aS m c) (aB m c) (aX m c) (aG m c) ((((cfg0.win 6).blk t).view.emb (ix2 r d) : S256x8192.Idx) 0) ((((cfg0.win 6).blk t).view.emb (ix2 r d) : S256x8192.Idx) 1)
  rw [e0, e1]
  rfl

theorem flushed7_eq (c : Dev nD) (t : Fin cfg0.N) (hf : (cfg0.win 7).flush t = true) :
    (dats m 0 c).flushed 7 t = ((cfg0.win 7).blk t).view.read (Elt Ideal) (G7 m c) := by
  show (cfg0.win 7).cut (grid0.coords t) ((dats m 0 c).after 7 t) = _
  rw [after0_7]
  funext y
  show accAt m c t.val t.isLt y = G7 m c (((cfg0.win 7).blk t).view.emb y)
  obtain ⟨b, l, rfl⟩ : ∃ (b : Fin 2) (l : Fin 128), y = ix2 b l := ⟨y 0, y 1, by funext a; fin_cases a <;> rfl⟩
  obtain ⟨-, -, ⟨h0, h1, h2⟩⟩ := idx_out t
  have h7 : t.val = 7 := h2.1 hf
  refine (accAt_apply m c t.val t.isLt b l).trans ?_
  rw [if_pos (by omega)]
  have e0 : (((cfg0.win 7).blk t).view.emb (ix2 b l) : S2x128.Idx) 0 = b :=
    Fin.ext (by show win0_7.index t (0 : Fin 2) * 2 + 1 * b.val = b.val; omega)
  have e1 : (((cfg0.win 7).blk t).view.emb (ix2 b l) : S2x128.Idx) 1 = l :=
    Fin.ext (by show win0_7.index t (1 : Fin 2) * 128 + 1 * l.val = l.val; omega)
  show _ = outS (aP m c) (aS m c) (aB m c) (aX m c) (aG m c) ((((cfg0.win 7).blk t).view.emb (ix2 b l) : S2x128.Idx) 0) ((((cfg0.win 7).blk t).view.emb (ix2 b l) : S2x128.Idx) 1)
  rw [e0, e1]

/-- An index of an array is in a point's block iff each coordinate is in the block's range. -/
theorem mem_blk5 (t : Fin cfg0.N) (i : S256x8192.Idx) :
    i ∈ ((cfg0.win 5).blk t).view.set ↔ ∀ a : Fin 2, win0_5.index t a * S32x8192.size a ≤ (i a).val ∧ (i a).val < win0_5.index t a * S32x8192.size a + S32x8192.size a := by
  show i ∈ ((View.whole main_v5_0).slice (win0_5.rect t)).set ↔ _
  rw [View.set_slice_whole, Rect.mem_set_unit]
  exact Iff.rfl
theorem mem_blk6 (t : Fin cfg0.N) (i : S256x8192.Idx) :
    i ∈ ((cfg0.win 6).blk t).view.set ↔ ∀ a : Fin 2, win0_6.index t a * S32x8192.size a ≤ (i a).val ∧ (i a).val < win0_6.index t a * S32x8192.size a + S32x8192.size a := by
  show i ∈ ((View.whole main_v5_1).slice (win0_6.rect t)).set ↔ _
  rw [View.set_slice_whole, Rect.mem_set_unit]
  exact Iff.rfl
theorem mem_blk7 (t : Fin cfg0.N) (i : S2x128.Idx) :
    i ∈ ((cfg0.win 7).blk t).view.set ↔ ∀ a : Fin 2, win0_7.index t a * S2x128.size a ≤ (i a).val ∧ (i a).val < win0_7.index t a * S2x128.size a + S2x128.size a := by
  show i ∈ ((View.whole main_v5_2).slice (win0_7.rect t)).set ↔ _
  rw [View.set_slice_whole, Rect.mem_set_unit]
  exact Iff.rfl

theorem final5 (c : Dev nD) : (dats m 0 c).arrAt 5 cfg0.N = G5 m c :=
  (dats m 0 c).arrAt_eq_of_cover 5 _ (fun t _ => flushed5_eq m c t) (fun (i : S256x8192.Idx) => by
    have h0 : (i 0).val < 256 := (i 0).isLt
    have h1 : (i 1).val < 8192 := (i 1).isLt
    have ht : (i 0).val / 32 < cfg0.N := lt_of_lt_of_eq (by omega : (i 0).val / 32 < 8) N_0.symm
    obtain ⟨⟨g0, g1, g2⟩, -⟩ := idx_out ⟨(i 0).val / 32, ht⟩
    refine ⟨⟨(i 0).val / 32, ht⟩, g2, (mem_blk5 _ i).2 fun a => ?_⟩
    fin_cases a
    · show win0_5.index _ (0 : Fin 2) * 32 ≤ (i 0).val ∧ (i 0).val < win0_5.index _ (0 : Fin 2) * 32 + 32
      rw [g0]; show (i 0).val / 32 * 32 ≤ (i 0).val ∧ (i 0).val < (i 0).val / 32 * 32 + 32; omega
    · show win0_5.index _ (1 : Fin 2) * 8192 ≤ (i 1).val ∧ (i 1).val < win0_5.index _ (1 : Fin 2) * 8192 + 8192
      rw [g1]; omega)
theorem final6 (c : Dev nD) : (dats m 0 c).arrAt 6 cfg0.N = G6 m c :=
  (dats m 0 c).arrAt_eq_of_cover 6 _ (fun t _ => flushed6_eq m c t) (fun (i : S256x8192.Idx) => by
    have h0 : (i 0).val < 256 := (i 0).isLt
    have h1 : (i 1).val < 8192 := (i 1).isLt
    have ht : (i 0).val / 32 < cfg0.N := lt_of_lt_of_eq (by omega : (i 0).val / 32 < 8) N_0.symm
    obtain ⟨-, ⟨g0, g1, g2⟩, -⟩ := idx_out ⟨(i 0).val / 32, ht⟩
    refine ⟨⟨(i 0).val / 32, ht⟩, g2, (mem_blk6 _ i).2 fun a => ?_⟩
    fin_cases a
    · show win0_6.index _ (0 : Fin 2) * 32 ≤ (i 0).val ∧ (i 0).val < win0_6.index _ (0 : Fin 2) * 32 + 32
      rw [g0]; show (i 0).val / 32 * 32 ≤ (i 0).val ∧ (i 0).val < (i 0).val / 32 * 32 + 32; omega
    · show win0_6.index _ (1 : Fin 2) * 8192 ≤ (i 1).val ∧ (i 1).val < win0_6.index _ (1 : Fin 2) * 8192 + 8192
      rw [g1]; omega)
theorem final7 (c : Dev nD) : (dats m 0 c).arrAt 7 cfg0.N = G7 m c :=
  (dats m 0 c).arrAt_eq_of_cover 7 _ (fun t hf => flushed7_eq m c t hf) (fun (i : S2x128.Idx) => by
    have h0 : (i 0).val < 2 := (i 0).isLt
    have h1 : (i 1).val < 128 := (i 1).isLt
    have ht : 7 < cfg0.N := lt_of_lt_of_eq (by decide : 7 < 8) N_0.symm
    obtain ⟨-, -, ⟨g0, g1, g2⟩⟩ := idx_out ⟨7, ht⟩
    refine ⟨⟨7, ht⟩, g2.2 rfl, (mem_blk7 _ i).2 fun a => ?_⟩
    fin_cases a
    · show win0_7.index _ (0 : Fin 2) * 2 ≤ (i 0).val ∧ (i 0).val < win0_7.index _ (0 : Fin 2) * 2 + 2
      rw [g0]; omega
    · show win0_7.index _ (1 : Fin 2) * 128 ≤ (i 1).val ∧ (i 1).val < win0_7.index _ (1 : Fin 2) * 128 + 128
      rw [g1]; omega)

/-- Every execution of the ideal kernel ends with the three arrays at the specification and the arguments as launched. -/
theorem run : θ_run defs (onTc (τ := τ) (main (F := Ideal))) ⟨m, fun _ => 0, ρ⟩ fun r => ∀ c : Dev nD,
      r.2.mem ((c : Thread nD τ).loc main_v5_0) = G5 m c
      ∧ r.2.mem ((c : Thread nD τ).loc main_v5_1) = G6 m c
      ∧ r.2.mem ((c : Thread nD τ).loc main_v5_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), ((h.1 c).1 6).trans (final6 m c), ((h.1 c).1 7).trans (final7 m c), h.2 c⟩)
    (θ_run_and (run_main m ρ) (unchanged m ρ))

end Cert.KernelIdeal.Hand

end
-- ==== Proof.RSem.lean ====
module

public import proofs.«01_k».proof.Proof.Gen.ReferenceIdeal.Value
public import proofs.«01_k».proof.Proof.KGoal

@[expose] public section

/-! The reference over the reals: its three arrays are the specification of the arguments. -/

set_option maxRecDepth 16384

noncomputable section

namespace Cert.ReferenceIdeal.Hand

open Cert.ReferenceIdeal.Gen
open Idealize.ShloMosaic Idealize.ShloMosaic.TcCoe Idealize.ShloMosaic.Tactic
open Cert.Spec
open scoped BigOperators

section
variable (a0 : Vec Ideal S8x2x128x8192 .fp8e4m3) (a1 : Vec Ideal S8x2x128 .f32) (a2 : Vec Ideal S8192 .f32) (a3 : Vec Ideal S2x128x8192 .bf16) (a4 : Vec Ideal S8192 .f32)

/-- The row of token `(b, t)`, and the gain by column. -/
abbrev row (b : Fin 2) (t : Fin 128) : Nat → EReal :=
  rowN (fun s b t d => a0 (ix4 s b t d)) (fun s b t => a1 (ix3 s b t)) (fun d => a2 (ix1 d)) (fun b t d => a3 (ix3 b t d)) b t
abbrev gn : Nat → EReal := gainN fun d => a4 (ix1 d)

theorem pay5_apply (b : Fin 2) (t : Fin 128) (d : Fin 8192) : k0_pay5 a0 a1 a2 a3 (ix3 b t d) = row a0 a1 a2 a3 b t d.val := by
  pointwise [k0_pay5]
  have hd : (⟨d.val % 8192, Nat.mod_lt _ (by decide)⟩ : Fin 8192) = d := Fin.ext (Nat.mod_eq_of_lt d.isLt)
  unfold row rowN
  rw [hd]

/-- Dividing by 8192 is multiplying by its reciprocal. -/
theorem div_8192 (x : EReal) : Ideal.div x (Ideal.ofBits .f32 0x46000000#32) = x * Ideal.ofBits .f32 0x39000000#32 := by
  have e1 : Ideal.ofBits .f32 0x46000000#32 = (((2 : ℝ) ^ (13 : Int) : ℝ) : EReal) := (pw_eq 140 (by norm_num) (by norm_num)).trans (by norm_num)
  have e2 : Ideal.ofBits .f32 0x39000000#32 = (((2 : ℝ) ^ (-13 : Int) : ℝ) : EReal) := (pw_eq 114 (by norm_num) (by norm_num)).trans (by norm_num)
  have h0 : (((2 : ℝ) ^ (13 : Int) : ℝ) : EReal) ≠ 0 := EReal.coe_ne_zero.2 (zpow_ne_zero _ (by norm_num))
  rw [e1, e2]
  unfold Ideal.div
  rw [if_neg h0, ← EReal.coe_inv, ← zpow_neg]

/-- Sums and suprema over an initial segment of the naturals. -/
theorem sum_fin (n : Nat) (f : Nat → EReal) : ∑ x : Fin n, f x.val = ∑ d ∈ Finset.range n, f d := (Finset.sum_range f).symm
theorem sup_fin (n : Nat) (f : Nat → EReal) : (Finset.univ : Finset (Fin n)).sup (fun x => f x.val) = (Finset.range n).sup f := by
  apply le_antisymm
  · exact Finset.sup_le fun x _ => Finset.le_sup (f := f) (Finset.mem_range.2 x.isLt)
  · exact Finset.sup_le fun d hd => Finset.le_sup (f := fun x : Fin n => f x.val) (b := ⟨d, Finset.mem_range.1 hd⟩) (Finset.mem_univ _)

theorem gn_apply (d : Fin 8192) : gn a4 d.val = a4 (ix1 d) :=
  congrArg (fun d => a4 (ix1 d)) (Fin.ext (Nat.mod_eq_of_lt d.isLt))

theorem pay6_apply (b : Fin 2) (t : Fin 128) (d : Fin 8192) : k0_pay6 a0 a1 a2 a3 a4 (ix3 b t d) = nrm (row a0 a1 a2 a3 b t) (gn a4) d.val := by
  pointwise [k0_pay6]
  simp only [pay5_apply]
  generalize row a0 a1 a2 a3 b t = R
  rw [← gn_apply a4 d, sum_fin 8192 (fun d => R d * R d), div_8192]
  unfold nrm rms msq
  rfl

/-- A maximum along the last axis, at a token. -/
theorem max_row {n : Nat} (h : (⟨3, ![2, 128, n]⟩ : Shape).Reduces [2] ⟨2, ![2, 128]⟩) (x : FVec Ideal ⟨3, ![2, 128, n]⟩ .f32) (w : BitVec 32)
    (hφ : FKind.Formats .f32) (hacc : w = FKind.maximumf.neutral .f32 hφ) (b : Fin 2) (t : Fin 128) :
    multiReduction .maximumf [2] ⟨2, ![2, 128]⟩ x w h hφ hacc (ix2 b t) = Finset.fold max (Ideal.ofBits .f32 w) (fun k : Fin n => x (ix3 b t k)) Finset.univ := by
  rw [multiReduction_maximumf_eq_fold]
  exact Shape.Reduces.fold_fiber_r3_a2 h (ix2 b t) _ _ x

/-- A token's largest absolute value, over 448, at any width. -/
theorem max_abs_row {n : Nat} (h : (⟨3, ![2, 128, n]⟩ : Shape).Reduces [2] ⟨2, ![2, 128]⟩) (x : FVec Ideal ⟨3, ![2, 128, n]⟩ .f32)
    (hφ : FKind.Formats .f32) (hacc : 0xFF800000#32 = FKind.maximumf.neutral .f32 hφ) (b : Fin 2) (t : Fin 128) (f : Nat → EReal) (hf : ∀ k : Fin n, x (ix3 b t k) = f k.val) :
    mulf (multiReduction .maximumf [2] ⟨2, ![2, 128]⟩ (absf x) 0xFF800000#32 h hφ hacc) (broadcast ⟨2, ![2, 128]⟩ (Scalar.ofBits .f32 0x3B124925#32 : Ideal .f32)) (ix2 b t)
      = ((Finset.range n).sup fun d => max (f d) (-f d)) * Ideal.ofBits .f32 0x3B124925#32 := by
  have e : ∀ u v : FVec Ideal ⟨2, ![2, 128]⟩ .f32, mulf u v (ix2 b t) = u (ix2 b t) * v (ix2 b t) := fun _ _ => rfl
  have habs : ∀ k : Fin n, absf x (ix3 b t k) = max (f k.val) (-f k.val) := fun k => by rw [← hf]; rfl
  rw [e, max_row, fold_max_sup]
  simp only [habs]
  rw [sup_fin n (fun d => max (f d) (-f d))]
  rfl

theorem pay7_apply (b : Fin 2) (t : Fin 128) : k0_pay7 a0 a1 a2 a3 a4 (ix2 b t) = amax448 (row a0 a1 a2 a3 b t) (gn a4) := by
  unfold k0_pay7 amax448 amax
  exact max_abs_row reduces_S2x128x8192_S2x128 (k0_pay6 a0 a1 a2 a3 a4) (.inl rfl) rfl b t (nrm (row a0 a1 a2 a3 b t) (gn a4)) (pay6_apply a0 a1 a2 a3 a4 b t)

/-- The powers of two the reference compares with. -/
theorem power_words : ∀ n : Fin 253, (IntOp.subi (BitVec.ofNat 32 n.val) 126#32).toInt = (n.val : Int) - 126 := by decide +kernel
theorem power_eq (n : Fin 253) : FloatOps.exp2 (F := Ideal) (φ := .f32) (FloatOps.sitofp .f32 (IntOp.subi (BitVec.ofNat 32 n.val) 126#32)) = pw (n.val + 1) := by
  show Ideal.exp2 (((IntOp.subi (BitVec.ofNat 32 n.val) 126#32).toInt : ℝ) : EReal) = _
  rw [power_words, Ideal.exp2_coe, pw_eq _ (by omega) (by omega)]
  congr 1
  refine (Real.rpow_intCast 2 _).trans ?_
  congr 1
  push_cast
  ring

/-- Their count. -/
theorem count_eq (v : EReal) : (∑ x : Fin 253, if pw (x.val + 1) ≤ v then (1 : EReal) else 0) = ((cnt v : ℝ) : EReal) := by
  rw [← Finset.sum_range (f := fun k => if pw (k + 1) ≤ v then (1 : EReal) else 0), Finset.sum_boole]
  rfl

theorem ofBits_126 : Ideal.ofBits .f32 0x42FC0000#32 = ((126 : ℝ) : EReal) := by
  show Ideal.ieee 8 23 0x42FC0000#32 = _
  unfold Ideal.ieee
  simp only [show ((0x42FC0000#32).extractLsb' (8 + 23) 1 == 1#1) = false by decide, show ((0x42FC0000#32).extractLsb' 23 8).toNat = 133 by decide,
    show ((0x42FC0000#32).extractLsb' 0 23).toNat = 8126464 by decide]
  norm_num

/-- The exponent the reference scales by. -/
theorem pay1_apply (v33 : FVec Ideal S2x128 .f32) (v38 : IVec S2x128 1) (b : Fin 2) (t : Fin 128)
    (h : v38 (ix2 b t) = IntOp.andi (FloatOps.cmpf (F := Ideal) (φ := .f32) .oge (v33 (ix2 b t)) (pw 1)) (FloatOps.cmpf (F := Ideal) (φ := .f32) .olt (v33 (ix2 b t)) (pw 253))) :
    k0_pay1 v33 v38 (iota .tc S2x128x253 32 [2] iota_S2x128x253_d2_w32) (ix2 b t) = ((expo (v33 (ix2 b t)) : ℝ) : EReal) := by
  pointwise [k0_pay1]
  simp only [power_eq]
  rw [count_eq, ofBits_126, h, ← EReal.coe_sub]
  generalize v33 (ix2 b t) = v
  have e1 : FloatOps.cmpf (F := Ideal) (φ := .f32) .oge v (pw 1) = BitVec.ofBool (decide (pw 1 ≤ v)) := rfl
  have e2 : FloatOps.cmpf (F := Ideal) (φ := .f32) .olt v (pw 253) = BitVec.ofBool (decide (v < pw 253)) := rfl
  rw [e1, e2]
  unfold expo Scalar.select
  by_cases h1 : pw 1 ≤ v <;> by_cases h2 : v < pw 253 <;> simp [h1, h2, IntOp.andi]

theorem range_apply (w : FVec Ideal S2x128 .f32) (b : Fin 2) (t : Fin 128) :
    andi (cmpf .oge w (broadcast S2x128 (Scalar.ofBits .f32 0x00800000#32 : Ideal .f32))) (cmpf .olt w (broadcast S2x128 (Scalar.ofBits .f32 0x7E800000#32 : Ideal .f32))) (ix2 b t)
      = IntOp.andi (FloatOps.cmpf (F := Ideal) (φ := .f32) .oge (w (ix2 b t)) (pw 1)) (FloatOps.cmpf (F := Ideal) (φ := .f32) .olt (w (ix2 b t)) (pw 253)) := rfl

theorem pay8_apply (b : Fin 2) (t : Fin 128) : k0_pay8 a0 a1 a2 a3 a4 (ix2 b t)
    = IntOp.andi (FloatOps.cmpf (F := Ideal) (φ := .f32) .oge (k0_pay7 a0 a1 a2 a3 a4 (ix2 b t)) (pw 1)) (FloatOps.cmpf (F := Ideal) (φ := .f32) .olt (k0_pay7 a0 a1 a2 a3 a4 (ix2 b t)) (pw 253)) := by
  unfold k0_pay8
  exact range_apply (k0_pay7 a0 a1 a2 a3 a4) b t

theorem exp2_int (e : Int) : Ideal.exp2 ((e : ℝ) : EReal) = (((2 : ℝ) ^ e : ℝ) : EReal) := by
  rw [Ideal.exp2_coe]
  exact congrArg _ (Real.rpow_intCast 2 e)

/-! ## The three arrays -/

theorem pay9_eq : k0_pay9 a0 a1 a2 a3 a4 = iota .tc S2x128x253 32 [2] iota_S2x128x253_d2_w32 := rfl
theorem pay10_eq : k0_pay10 a0 a1 a2 a3 a4 = k0_pay7 a0 a1 a2 a3 a4 := by
  unfold k0_pay10
  rw [View.ld_unit_zero (S := S8x2x128x8192) Value.hz0 _ a0, View.ld_unit_zero (S := S8x2x128) Value.hz1 _ a1, View.ld_unit_zero (S := S8192) Value.hz2 _ a2,
    View.ld_unit_zero (S := S2x128x8192) Value.hz3 _ a3, View.ld_unit_zero (S := S8192) Value.hz2 _ a4]
theorem pay11_eq : k0_pay11 a0 a1 a2 a3 a4 = k0_pay8 a0 a1 a2 a3 a4 := by
  unfold k0_pay11
  rw [View.ld_unit_zero (S := S8x2x128x8192) Value.hz0 _ a0, View.ld_unit_zero (S := S8x2x128) Value.hz1 _ a1, View.ld_unit_zero (S := S8192) Value.hz2 _ a2,
    View.ld_unit_zero (S := S2x128x8192) Value.hz3 _ a3, View.ld_unit_zero (S := S8192) Value.hz2 _ a4]

/-- The exponent of a token. -/
theorem exp_apply (b : Fin 2) (t : Fin 128) :
    k0_pay1 (k0_pay7 a0 a1 a2 a3 a4) (k0_pay8 a0 a1 a2 a3 a4) (iota .tc S2x128x253 32 [2] iota_S2x128x253_d2_w32) (ix2 b t)
      = ((expo (amax448 (row a0 a1 a2 a3 b t) (gn a4)) : ℝ) : EReal) := by
  rw [pay1_apply _ _ b t (pay8_apply a0 a1 a2 a3 a4 b t), pay7_apply]

theorem G5_apply (r : Fin 256) (d : Fin 8192) : Value.G5 a0 a1 a2 a3 a4 (ix2 r d) = row a0 a1 a2 a3 (batchOf r) (posOf r) d.val := by
  unfold Value.G5
  rw [← pay5_apply]
  generalize k0_pay5 a0 a1 a2 a3 = w
  pointwise [k0_pay3]
  rfl

theorem pay2_apply (v33 : FVec Ideal S2x128 .f32) (v38 : IVec S2x128 1) (v39 : IVec S2x128x253 32) (i : S2x128.Idx) :
    k0_pay2 v33 v38 v39 i = Ideal.exp2 (k0_pay1 v33 v38 v39 i) := by
  unfold k0_pay2
  generalize k0_pay1 v33 v38 v39 = w
  rfl

theorem G7_apply (b : Fin 2) (t : Fin 128) : Value.G7 a0 a1 a2 a3 a4 (ix2 b t) = rowScale (row a0 a1 a2 a3 b t) (gn a4) := by
  unfold Value.G7
  rw [pay9_eq, pay10_eq, pay11_eq, pay2_apply, exp_apply, exp2_int]
  unfold rowScale scale
  exact Eq.refl _

/-- A code from the exponent. -/
theorem pay4_apply (v29 : FVec Ideal S2x128x8192 .f32) (v33 : FVec Ideal S2x128 .f32) (v38 : IVec S2x128 1) (v39 : IVec S2x128x253 32) (r : Fin 256) (d : Fin 8192) :
    k0_pay4 v29 v33 v38 v39 (ix2 r d) = min (Ideal.ofBits .f32 0x43E00000#32) (max (Ideal.ofBits .f32 0xC3E00000#32)
      (v29 (ix3 (batchOf r) (posOf r) d) * Ideal.exp2 (0 - k0_pay1 v33 v38 v39 (ix2 (batchOf r) (posOf r))))) := by
  unfold k0_pay4
  generalize k0_pay1 v33 v38 v39 = w
  pointwise
  rfl

theorem G6_apply (r : Fin 256) (d : Fin 8192) :
    Value.G6 a0 a1 a2 a3 a4 (ix2 r d) = code (row a0 a1 a2 a3 (batchOf r) (posOf r)) (gn a4) d.val := by
  unfold Value.G6
  rw [pay9_eq, pay10_eq, pay11_eq, pay4_apply, exp_apply, pay6_apply]
  have e : (0 : EReal) - ((expo (amax448 (row a0 a1 a2 a3 (batchOf r) (posOf r)) (gn a4)) : ℝ) : EReal)
      = (((-expo (amax448 (row a0 a1 a2 a3 (batchOf r) (posOf r)) (gn a4)) : Int) : ℝ) : EReal) := by
    rw [zero_sub, ← EReal.coe_neg, Int.cast_neg]
  rw [e, exp2_int]
  unfold code Spec.inv
  exact Eq.refl _

end

end Cert.ReferenceIdeal.Hand

end
-- ==== Proof.lean ====
module

public import proofs.«01_k».proof.Proof.KTransport
public import proofs.«01_k».proof.Proof.KValue
public import proofs.«01_k».proof.Proof.RSem
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.ShloMosaic.TcCoe Idealize.SL.Sem

/-- The kernel's arrays and the reference's, from the same arguments, are equal. -/
theorem arrays_eq (m : (ℓ : Loc Cert.KernelIdeal.nD Cert.KernelIdeal.τ Cert.KernelIdeal.sig) → Buf (Elt Ideal) ℓ) (c : Dev Cert.KernelIdeal.nD)
    (a0 : Vec Ideal Cert.ReferenceIdeal.S8x2x128x8192 .fp8e4m3) (a1 : Vec Ideal Cert.ReferenceIdeal.S8x2x128 .f32) (a2 : Vec Ideal Cert.ReferenceIdeal.S8192 .f32)
    (a3 : Vec Ideal Cert.ReferenceIdeal.S2x128x8192 .bf16) (a4 : Vec Ideal Cert.ReferenceIdeal.S8192 .f32)
    (h0 : a0 = m ((c : Thread Cert.KernelIdeal.nD Cert.KernelIdeal.τ).loc Cert.KernelIdeal.main_arg0))
    (h1 : a1 = m ((c : Thread Cert.KernelIdeal.nD Cert.KernelIdeal.τ).loc Cert.KernelIdeal.main_arg1))
    (h2 : a2 = m ((c : Thread Cert.KernelIdeal.nD Cert.KernelIdeal.τ).loc Cert.KernelIdeal.main_arg2))
    (h3 : a3 = m ((c : Thread Cert.KernelIdeal.nD Cert.KernelIdeal.τ).loc Cert.KernelIdeal.main_arg3))
    (h4 : a4 = m ((c : Thread Cert.KernelIdeal.nD Cert.KernelIdeal.τ).loc Cert.KernelIdeal.main_arg4)) :
    Cert.ReferenceIdeal.Value.G5 a0 a1 a2 a3 a4 = Cert.KernelIdeal.Hand.G5 m c
      ∧ Cert.ReferenceIdeal.Value.G6 a0 a1 a2 a3 a4 = Cert.KernelIdeal.Hand.G6 m c
      ∧ Cert.ReferenceIdeal.Value.G7 a0 a1 a2 a3 a4 = Cert.KernelIdeal.Hand.G7 m c := by
  subst h0 h1 h2 h3 h4
  refine ⟨funext fun i => ?_, funext fun i => ?_, funext fun i => ?_⟩
  · obtain ⟨r, d, rfl⟩ : ∃ (r : Fin 256) (d : Fin 8192), i = ix2 r d := ⟨i 0, i 1, by funext a; fin_cases a <;> rfl⟩
    exact Cert.ReferenceIdeal.Hand.G5_apply _ _ _ _ _ r d
  · obtain ⟨r, d, rfl⟩ : ∃ (r : Fin 256) (d : Fin 8192), i = ix2 r d := ⟨i 0, i 1, by funext a; fin_cases a <;> rfl⟩
    exact Cert.ReferenceIdeal.Hand.G6_apply _ _ _ _ _ r d
  · obtain ⟨b, t, rfl⟩ : ∃ (b : Fin 2) (t : Fin 128), i = ix2 b t := ⟨i 0, i 1, by funext a; fin_cases a <;> rfl⟩
    exact Cert.ReferenceIdeal.Hand.G7_apply _ _ _ _ _ b t

/-- The kernel over the reals computes what the reference computes. -/
theorem algebraic : Cert.algebraic_KernelIdeal_ReferenceIdeal := by
  intro m g m' g' _ h
  refine ⟨Cert.KernelIdeal.Hand.G5 m, Cert.KernelIdeal.Hand.G6 m, Cert.KernelIdeal.Hand.G7 m, Cert.KernelIdeal.Hand.run m g, ?_⟩
  refine (θ_run _ _ _).mono (fun r hr c => ?_) (Cert.ReferenceIdeal.Value.run m' g')
  obtain ⟨q0, q1, q2, q3, q4⟩ := h c
  obtain ⟨e5, e6, e7⟩ := arrays_eq m c _ _ _ _ _ q0 q1 q2 q3 q4
  obtain ⟨p5, p6, p7, rest⟩ := hr c
  exact ⟨p5.trans e5, p6.trans e6, p7.trans e7, rest⟩

theorem claim : Cert.Claim := ⟨Cert.Kernel.Gen.facts, Cert.KernelIdeal.Gen.facts, Cert.ReferenceIdeal.Gen.facts,
  ⟨Cert.Transport.quiescent_of (fun m ρ => Cert.KernelIdeal.Hand.frame m ρ), fun m ρ _ => Cert.KernelIdeal.Hand.frame m ρ,
    fun m ρ _ => Cert.ReferenceIdeal.Gen.frame m ρ, trivial, algebraic⟩⟩

end Cert.Proof

end
